-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_w_finite [hPre_norm_w_finite : Cert.Pre_norm_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_norm_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_w_finite [hPre_norm_w_finite : Cert.Pre_norm_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_norm_w_finite [hKernelIdeal : Cert.KernelIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_norm_w_finite [hReferenceIdeal : Cert.ReferenceIdeal.Facts] [hPre_norm_w_finite : Cert.Pre_norm_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_norm_w_finite [hKernelIdeal : Cert.KernelIdeal.Facts] [hReferenceIdeal : Cert.ReferenceIdeal.Facts] [hPre_norm_w_finite : Cert.Pre_norm_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v12)) (v4 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v12) = v3 c
          ∧ r.2.mem ((c.tc : Thread Cert.KernelIdeal.nD Cert.KernelIdeal.τ).loc Cert.KernelIdeal.main_v13) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_norm_w_finite : Cert.Pre_norm_w_finite.Facts),
    quiescent_Kernel (hKernel := hKernel)
    ∧ quiescent_KernelIdeal (hKernelIdeal := hKernelIdeal)
    ∧ quiescent_KernelIdeal_pre_norm_w_finite (hKernelIdeal := hKernelIdeal) (hPre_norm_w_finite := hPre_norm_w_finite)
    ∧ quiescent_ReferenceIdeal (hReferenceIdeal := hReferenceIdeal)
    ∧ quiescent_ReferenceIdeal_pre_norm_w_finite (hReferenceIdeal := hReferenceIdeal) (hPre_norm_w_finite := hPre_norm_w_finite)
    ∧ preserves_Kernel_KernelIdeal
    ∧ algebraic_KernelIdeal_ReferenceIdeal_pre_norm_w_finite (hKernelIdeal := hKernelIdeal) (hReferenceIdeal := hReferenceIdeal) (hPre_norm_w_finite := hPre_norm_w_finite)
-- ==== Pre_norm_w_finite.lean ====
abbrev S6x1024x5120 : Shape := ⟨3, ![6, 1024, 5120]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S_ : Shape := ⟨0, ![]⟩

class Facts : Prop where
  bcast_S_S5120 : S_.BroadcastsInDim S5120 (![] : Fin 0 → Fin S5120.rank)

variable [Facts]

def fn {F : FTy → Type} [FloatOps F] (main_arg0 : FVec F S6x1024x5120 .bf16) (main_arg1 : FVec F S5120 .bf16) (main_arg2 : FVec F S5120x3584 .fp8e4m3) (main_arg3 : FVec F S3584 .f32) (main_arg4 : FVec F S128 .bf16) (main_arg5 : FVec F S128 .bf16) : IVec S5120 1 :=
  let main_v0 : FVec F S5120 .bf16 := Host.absf main_arg1
  let main_cst : FVec F S_ .bf16 := constant S_ .bf16 0x7F7F#16
  let main_v1 : FVec F S5120 .bf16 := broadcastInDim S5120 ![] bcast_S_S5120 main_cst
  let main_v2 : IVec S5120 1 := cmpf .ole main_v0 main_v1
  main_v2
-- ==== Kernel.lean ====
abbrev S6x1024x5120 : Shape := ⟨3, ![6, 1024, 5120]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S6144x5120 : Shape := ⟨2, ![6144, 5120]⟩
abbrev S1x5120 : Shape := ⟨2, ![1, 5120]⟩
abbrev S1x128 : Shape := ⟨2, ![1, 128]⟩
abbrev S2x128 : Shape := ⟨2, ![2, 128]⟩
abbrev S1x3584 : Shape := ⟨2, ![1, 3584]⟩
abbrev S6x20x1024x128 : Shape := ⟨4, ![6, 20, 1024, 128]⟩
abbrev S6144x4x128 : Shape := ⟨3, ![6144, 4, 128]⟩
abbrev S6x1x1024 : Shape := ⟨3, ![6, 1, 1024]⟩
abbrev S256x5120 : Shape := ⟨2, ![256, 5120]⟩
abbrev S1x20x512x128 : Shape := ⟨4, ![1, 20, 512, 128]⟩
abbrev S512x4x128 : Shape := ⟨3, ![512, 4, 128]⟩
abbrev S512x5120 : Shape := ⟨2, ![512, 5120]⟩
abbrev S1x1x512 : Shape := ⟨3, ![1, 1, 512]⟩
abbrev S256x128 : Shape := ⟨2, ![256, 128]⟩
abbrev S32x128 : Shape := ⟨2, ![32, 128]⟩
abbrev S32 : Shape := ⟨1, ![32]⟩
abbrev S32x1 : Shape := ⟨2, ![32, 1]⟩
abbrev S1x256 : Shape := ⟨2, ![1, 256]⟩
abbrev S32x256 : Shape := ⟨2, ![32, 256]⟩
abbrev S5120x512 : Shape := ⟨2, ![5120, 512]⟩
abbrev S256x512 : Shape := ⟨2, ![256, 512]⟩
abbrev S256 : Shape := ⟨1, ![256]⟩
abbrev S256x1 : Shape := ⟨2, ![256, 1]⟩
abbrev S1x1x256x128 : Shape := ⟨4, ![1, 1, 256, 128]⟩
abbrev S256x1x128 : Shape := ⟨3, ![256, 1, 128]⟩
abbrev S256x2x128 : Shape := ⟨3, ![256, 2, 128]⟩
abbrev S128x128 : Shape := ⟨2, ![128, 128]⟩
abbrev S1x1x128 : Shape := ⟨3, ![1, 1, 128]⟩
abbrev S6x1024x20x128 : Shape := ⟨4, ![6, 1024, 20, 128]⟩
abbrev S6x1024x4x128 : Shape := ⟨4, ![6, 1024, 4, 128]⟩
abbrev S6x1024x1 : Shape := ⟨3, ![6, 1024, 1]⟩

abbrev nBuf : Space → Nat
  | .hbm => 24
  | .vmem => 23
  | .smem => 0
  | _ => 0

abbrev bufTy : (tb : Table) → Fin (tcTables nBuf tb) → BufTy
  | .hbm, ⟨0, _⟩ => ⟨S6x1024x5120, .bf16⟩
  | .hbm, ⟨1, _⟩ => ⟨S5120, .bf16⟩
  | .hbm, ⟨2, _⟩ => ⟨S5120x3584, .fp8e4m3⟩
  | .hbm, ⟨3, _⟩ => ⟨S3584, .f32⟩
  | .hbm, ⟨4, _⟩ => ⟨S128, .bf16⟩
  | .hbm, ⟨5, _⟩ => ⟨S128, .bf16⟩
  | .hbm, ⟨6, _⟩ => ⟨S6144x5120, .bf16⟩
  | .hbm, ⟨7, _⟩ => ⟨S5120, .f32⟩
  | .hbm, ⟨8, _⟩ => ⟨S1x5120, .f32⟩
  | .hbm, ⟨9, _⟩ => ⟨S1x128, .bf16⟩
  | .hbm, ⟨10, _⟩ => ⟨S1x128, .bf16⟩
  | .hbm, ⟨11, _⟩ => ⟨S2x128, .bf16⟩
  | .hbm, ⟨12, _⟩ => ⟨S2x128, .f32⟩
  | .hbm, ⟨13, _⟩ => ⟨S1x3584, .f32⟩
  | .hbm, ⟨14, _⟩ => ⟨S6x20x1024x128, .bf16⟩
  | .hbm, ⟨15, _⟩ => ⟨S6144x4x128, .bf16⟩
  | .hbm, ⟨16, _⟩ => ⟨S6144x4x128, .bf16⟩
  | .hbm, ⟨17, _⟩ => ⟨S6144x5120, .fp8e4m3⟩
  | .hbm, ⟨18, _⟩ => ⟨S6x1x1024, .f32⟩
  | .hbm, ⟨19, _⟩ => ⟨S6x1024x20x128, .bf16⟩
  | .hbm, ⟨20, _⟩ => ⟨S6x1024x4x128, .bf16⟩
  | .hbm, ⟨21, _⟩ => ⟨S6x1024x4x128, .bf16⟩
  | .hbm, ⟨22, _⟩ => ⟨S6x1024x5120, .fp8e4m3⟩
  | .hbm, ⟨23, _⟩ => ⟨S6x1024x1, .f32⟩
  | .local _ .vmem, ⟨0, _⟩ => ⟨S256x5120, .bf16⟩
  | .local _ .vmem, ⟨1, _⟩ => ⟨S256x5120, .bf16⟩
  | .local _ .vmem, ⟨2, _⟩ => ⟨S256x5120, .bf16⟩
  | .local _ .vmem, ⟨3, _⟩ => ⟨S256x5120, .bf16⟩
  | .local _ .vmem, ⟨4, _⟩ => ⟨S256x5120, .bf16⟩
  | .local _ .vmem, ⟨5, _⟩ => ⟨S1x5120, .f32⟩
  | .local _ .vmem, ⟨6, _⟩ => ⟨S5120x3584, .fp8e4m3⟩
  | .local _ .vmem, ⟨7, _⟩ => ⟨S1x3584, .f32⟩
  | .local _ .vmem, ⟨8, _⟩ => ⟨S2x128, .f32⟩
  | .local _ .vmem, ⟨9, _⟩ => ⟨S1x20x512x128, .bf16⟩
  | .local _ .vmem, ⟨10, _⟩ => ⟨S1x20x512x128, .bf16⟩
  | .local _ .vmem, ⟨11, _⟩ => ⟨S512x4x128, .bf16⟩
  | .local _ .vmem, ⟨12, _⟩ => ⟨S512x4x128, .bf16⟩
  | .local _ .vmem, ⟨13, _⟩ => ⟨S512x4x128, .bf16⟩
  | .local _ .vmem, ⟨14, _⟩ => ⟨S512x4x128, .bf16⟩
  | .local _ .vmem, ⟨15, _⟩ => ⟨S512x5120, .fp8e4m3⟩
  | .local _ .vmem, ⟨16, _⟩ => ⟨S512x5120, .fp8e4m3⟩
  | .local _ .vmem, ⟨17, _⟩ => ⟨S1x1x512, .f32⟩
  | .local _ .vmem, ⟨18, _⟩ => ⟨S1x1x512, .f32⟩
  | .local _ .vmem, ⟨19, _⟩ => ⟨S256x5120, .fp8e4m3⟩
  | .local _ .vmem, ⟨20, _⟩ => ⟨S256x5120, .fp8e4m3⟩
  | .local _ .vmem, ⟨21, _⟩ => ⟨S256x128, .f32⟩
  | .local _ .vmem, ⟨22, _⟩ => ⟨S256x128, .f32⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c23_i32 : BitVec 32 := 23#32
  let v2 : BitVec 32 := Scalar.minsi v1 c23_i32
  let c0_i32 : BitVec 32 := 0#32
  let c0_i32_1 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S256x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x3584 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x20x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x4x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x5120 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S6x1024x5120 : Shape := ⟨3, ![6, 1024, 5120]⟩
abbrev S5120 : Shape := ⟨1, ![5120]⟩
abbrev S5120x3584 : Shape := ⟨2, ![5120, 3584]⟩
abbrev S3584 : Shape := ⟨1, ![3584]⟩
abbrev S128 : Shape := ⟨1, ![128]⟩
abbrev S1x1x5120 : Shape := ⟨3, ![1, 1, 5120]⟩
abbrev S1x1x3584 : Shape := ⟨3, ![1, 1, 3584]⟩
abbrev S1x1x1x128 : Shape := ⟨4, ![1, 1, 1, 128]⟩
abbrev S6x1024x20x128 : Shape := ⟨4, ![6, 1024, 20, 128]⟩
abbrev S6x1024x4x128 : Shape := ⟨4, ![6, 1024, 4, 128]⟩
abbrev S6x1024x1 : Shape := ⟨3, ![6, 1024, 1]⟩
abbrev S6x1024 : Shape := ⟨2, ![6, 1024]⟩
abbrev S1x1x254 : Shape := ⟨3, ![1, 1, 254]⟩
abbrev S6x1024x254 : Shape := ⟨3, ![6, 1024, 254]⟩
abbrev S6144x5120 : Shape := ⟨2, ![6144, 5120]⟩
abbrev S6144x3584 : Shape := ⟨2, ![6144, 3584]⟩
abbrev S6x1024x3584 : Shape := ⟨3, ![6, 1024, 3584]⟩
abbrev S6x1024x2560 : Shape := ⟨3, ![6, 1024, 2560]⟩
abbrev S6x1024x512 : Shape := ⟨3, ![6, 1024, 512]⟩
abbrev S6x1024x20 : Shape := ⟨3, ![6, 1024, 20]⟩
abbrev S6x1024x20x1 : Shape := ⟨4, ![6, 1024, 20, 1]⟩
abbrev S6x1024x4 : Shape := ⟨3, ![6, 1024, 4]⟩
abbrev S6x1024x4x1 : Shape := ⟨4, ![6, 1024, 4, 1]⟩

abbrev nBuf : Space → Nat
  | .hbm => 15
  | .vmem => 11
  | .smem => 0
  | _ => 0

abbrev bufTy : (tb : Table) → Fin (tcTables nBuf tb) → BufTy
  | .hbm, ⟨0, _⟩ => ⟨S6x1024x5120, .bf16⟩
  | .hbm, ⟨1, _⟩ => ⟨S5120, .bf16⟩
  | .hbm, ⟨2, _⟩ => ⟨S5120x3584, .fp8e4m3⟩
  | .hbm, ⟨3, _⟩ => ⟨S3584, .f32⟩
  | .hbm, ⟨4, _⟩ => ⟨S128, .bf16⟩
  | .hbm, ⟨5, _⟩ => ⟨S128, .bf16⟩
  | .hbm, ⟨6, _⟩ => ⟨S1x1x5120, .bf16⟩
  | .hbm, ⟨7, _⟩ => ⟨S1x1x3584, .f32⟩
  | .hbm, ⟨8, _⟩ => ⟨S1x1x1x128, .bf16⟩
  | .hbm, ⟨9, _⟩ => ⟨S1x1x1x128, .bf16⟩
  | .hbm, ⟨10, _⟩ => ⟨S6x1024x20x128, .bf16⟩
  | .hbm, ⟨11, _⟩ => ⟨S6x1024x4x128, .bf16⟩
  | .hbm, ⟨12, _⟩ => ⟨S6x1024x4x128, .bf16⟩
  | .hbm, ⟨13, _⟩ => ⟨S6x1024x5120, .fp8e4m3⟩
  | .hbm, ⟨14, _⟩ => ⟨S6x1024x1, .f32⟩
  | .local _ .vmem, ⟨0, _⟩ => ⟨S6x1024x5120, .bf16⟩
  | .local _ .vmem, ⟨1, _⟩ => ⟨S1x1x5120, .bf16⟩
  | .local _ .vmem, ⟨2, _⟩ => ⟨S5120x3584, .fp8e4m3⟩
  | .local _ .vmem, ⟨3, _⟩ => ⟨S1x1x3584, .f32⟩
  | .local _ .vmem, ⟨4, _⟩ => ⟨S1x1x1x128, .bf16⟩
  | .local _ .vmem, ⟨5, _⟩ => ⟨S1x1x1x128, .bf16⟩
  | .local _ .vmem, ⟨6, _⟩ => ⟨S6x1024x20x128, .bf16⟩
  | .local _ .vmem, ⟨7, _⟩ => ⟨S6x1024x4x128, .bf16⟩
  | .local _ .vmem, ⟨8, _⟩ => ⟨S6x1024x4x128, .bf16⟩
  | .local _ .vmem, ⟨9, _⟩ => ⟨S6x1024x5120, .fp8e4m3⟩
  | .local _ .vmem, ⟨10, _⟩ => ⟨S6x1024x1, .f32⟩
  | _, _ => ⟨S6x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x1024x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5120x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x1x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x1024x20x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x1024x4x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x1024x4x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1024x5120 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Sim.lean ====
/-
  Hand-written. The two memory steps of a kernel body over a memref owned at named contents: a load continues at the
  contents read through its rectangle, an unmasked store leaves the contents with the rectangle overlaid.
-/
module

public import Idealize.ShloMosaic.Lib.Memref
public import Idealize.ShloMosaic.Lib.Pipeline.FrameBody
public import Idealize.ShloMosaic.Lib.Tactic

@[expose] public section

noncomputable section

namespace Cert.Sim

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load at the head of a program, the memref owned at `X`: the program continues at `X` on the rectangle. -/
theorem wp_load_owns {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    owns c m q X
      ⊢ iprop((owns c m q X -∗ wp frame (wpE defs 𝒱 c bd) E (k fun i => X (r.idx i)) Q)
        -∗ wp frame (wpE defs 𝒱 c bd) E (.op (.load m r hl) k) Q) := by
  unfold owns
  iintro ⟨%f, %hf, H⟩ Hk
  subst hf
  iapply (wp_load (defs := defs) 𝒱 c bd E (Q := Q) (m := m) (r := r) (hl := hl) (k := k) (S := m.view.set) (q := q) (f := f)
    (m.view.setOn_subset_set _)) $$ H
  iintro H
  iapply Hk
  iexists f
  isplitr
  · ipureintro; rfl
  · iexact H

/-- What a view reads after an unmasked write through a rectangle of it. -/
theorem read_write_slice {κ : Kind} {sp : Space} (v : View sig κ sp s e) (r : Rect s) (f : v.ty.Contents Val) (w : r.shape.Idx → Val e) :
    v.read Val ((v.slice r).write Val f w Finset.univ) = r.overlay (v.read Val f) w := by
  funext y
  by_cases hy : y ∈ r.set
  · obtain ⟨x, rfl⟩ : ∃ x, r.emb x = y := r.exists_idx_of_mem hy
    rw [Rect.overlay_emb, v.read_slice_write_emb r f w (Finset.mem_univ _)]
  · rw [Rect.overlay_of_not_mem _ _ _ hy, v.read_slice_write_of_not_mem]
    rwa [Rect.map_emb_univ]

/-- An unmasked store at the head of a program, the memref owned at `X`: it is left at `X` overlaid on the rectangle. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  subst hf
  iapply (wp_store (defs := defs) 𝒱 c bd E (Q := Q) (m := m) (r := r) (w := w) (hx := hx) (hm := hm) (k := k) (Mk := Finset.univ)
    (S := m.view.set) (f := f) (by exact (m.access r).setOn_univ ▸ m.view.set_slice_subset r)) $$ H
  iintro H
  iapply Hk
  iexists _
  isplitr
  · ipureintro; exact read_write_slice m.view r f w
  · iexact H

end Cert.Sim

end
-- ==== Proof.Own.lean ====
/-
  Hand-written. What a grid point of the kernel owns: the sixteen memrefs its body is called with, each at named
  contents (`St`, `Own`), and the relation `Sim p σ p' σ'`: from the memrefs at `σ` the program `p` may be run by running
  `p'` from the memrefs at `σ'`. One lemma per memref for its load, one per written memref for its store.
-/
module

public import proofs.«01_k».proof.KernelIdeal
public import proofs.«01_k».proof.Proof.Sim

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The contents of the sixteen memrefs: the seven inputs (tile 0, the odd tile, the next even tile, the norm's weight,
    the projection's codes and scales, the two head norms' weights), the five outputs and the four scratch buffers. -/
structure St (F : FTy → Type) where
  x0 : Vec F S256x5120 .bf16
  xb : Vec F S256x5120 .bf16
  xa : Vec F S256x5120 .bf16
  g : Vec F S1x5120 .f32
  w : Vec F S5120x3584 .fp8e4m3
  ws : Vec F S1x3584 .f32
  hw : Vec F S2x128 .f32
  q : Vec F S1x20x512x128 .bf16
  k : Vec F S512x4x128 .bf16
  v : Vec F S512x4x128 .bf16
  c : Vec F S512x5120 .fp8e4m3
  s : Vec F S1x1x512 .f32
  ca : Vec F S256x5120 .fp8e4m3
  cb : Vec F S256x5120 .fp8e4m3
  sa : Vec F S256x128 .f32
  sb : Vec F S256x128 .f32

variable {F : FTy → Type} [FloatOps F] [Named F] [Facts]

local notation "𝕄" => MT nD τ sig Unit (Elt F) ℕ (UR sig nD τ) ℕ

/-- The sixteen memrefs of a grid point, and that each is a whole buffer. -/
structure Refs where
  arg1 : Memref sig .tc .vmem S256x5120 .bf16
  harg1 : arg1.IsWhole
  arg2 : Memref sig .tc .vmem S256x5120 .bf16
  harg2 : arg2.IsWhole
  arg3 : Memref sig .tc .vmem S256x5120 .bf16
  harg3 : arg3.IsWhole
  arg4 : Memref sig .tc .vmem S1x5120 .f32
  harg4 : arg4.IsWhole
  arg5 : Memref sig .tc .vmem S5120x3584 .fp8e4m3
  harg5 : arg5.IsWhole
  arg6 : Memref sig .tc .vmem S1x3584 .f32
  harg6 : arg6.IsWhole
  arg7 : Memref sig .tc .vmem S2x128 .f32
  harg7 : arg7.IsWhole
  arg8 : Memref sig .tc .vmem S1x20x512x128 .bf16
  harg8 : arg8.IsWhole
  arg9 : Memref sig .tc .vmem S512x4x128 .bf16
  harg9 : arg9.IsWhole
  arg10 : Memref sig .tc .vmem S512x4x128 .bf16
  harg10 : arg10.IsWhole
  arg11 : Memref sig .tc .vmem S512x5120 .fp8e4m3
  harg11 : arg11.IsWhole
  arg12 : Memref sig .tc .vmem S1x1x512 .f32
  harg12 : arg12.IsWhole
  arg13 : Memref sig .tc .vmem S256x5120 .fp8e4m3
  harg13 : arg13.IsWhole
  arg14 : Memref sig .tc .vmem S256x5120 .fp8e4m3
  harg14 : arg14.IsWhole
  arg15 : Memref sig .tc .vmem S256x128 .f32
  harg15 : arg15.IsWhole
  arg16 : Memref sig .tc .vmem S256x128 .f32
  harg16 : arg16.IsWhole

/-- The body on the memrefs of `R`, at a grid point. -/
abbrev Refs.body (R : Refs) (i : grid0.Coords) : Prog (TpuEff nD τ sig (Elt F) Λ₀ .tc) PUnit :=
  cc0_qkv i R.arg1 R.harg1 R.arg2 R.harg2 R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16

variable (cc : Dev nD) (R : Refs)

/-- Core `cc` owns every memref of `R`, at the contents `σ`. -/
def Own : St F → sProp 𝕄
  | ⟨x0, xb, xa, g, w, ws, hw, q, k, v, c, s, ca, cb, sa, sb⟩ => iprop(owns (cc : Thread nD τ) R.arg1 fullShare x0 ∗ owns (cc : Thread nD τ) R.arg2 fullShare xb ∗ owns (cc : Thread nD τ) R.arg3 fullShare xa ∗ owns (cc : Thread nD τ) R.arg4 fullShare g ∗ owns (cc : Thread nD τ) R.arg5 fullShare w ∗ owns (cc : Thread nD τ) R.arg6 fullShare ws ∗ owns (cc : Thread nD τ) R.arg7 fullShare hw ∗ owns (cc : Thread nD τ) R.arg8 fullShare q ∗ owns (cc : Thread nD τ) R.arg9 fullShare k ∗ owns (cc : Thread nD τ) R.arg10 fullShare v ∗ owns (cc : Thread nD τ) R.arg11 fullShare c ∗ owns (cc : Thread nD τ) R.arg12 fullShare s ∗ owns (cc : Thread nD τ) R.arg13 fullShare ca ∗ owns (cc : Thread nD τ) R.arg14 fullShare cb ∗ owns (cc : Thread nD τ) R.arg15 fullShare sa ∗ owns (cc : Thread nD τ) R.arg16 fullShare sb)

/-- The weakest precondition a body is verified at. -/
abbrev bodyWp (p : Prog (TpuEff nD τ sig (Elt F) Λ₀ .tc) PUnit) (Q : PUnit → sProp 𝕄) : sProp 𝕄 :=
  wp frame (wpE (defs₀ (F := F)) Variants.none (cc : Thread nD τ) none) Set.univ p Q

/-- From the memrefs at `σ` the program `p` may be run by running `p'` from the memrefs at `σ'`. -/
def Sim (p : Prog (TpuEff nD τ sig (Elt F) Λ₀ .tc) PUnit) (σ : St F) (p' : Prog (TpuEff nD τ sig (Elt F) Λ₀ .tc) PUnit)
    (σ' : St F) : Prop :=
  ∀ Q : PUnit → sProp 𝕄, (Own cc R σ' ⊢ bodyWp cc p' Q) → (Own cc R σ ⊢ bodyWp cc p Q)

variable {cc R}

theorem Sim.refl (p : Prog (TpuEff nD τ sig (Elt F) Λ₀ .tc) PUnit) (σ : St F) : Sim cc R p σ p σ := fun _ h => h

theorem Sim.trans {p p' p'' : Prog (TpuEff nD τ sig (Elt F) Λ₀ .tc) PUnit} {σ σ' σ'' : St F} (h : Sim cc R p σ p' σ')
    (h' : Sim cc R p' σ' p'' σ'') : Sim cc R p σ p'' σ'' := fun Q hq => h Q (h' Q hq)

variable {p' : Prog (TpuEff nD τ sig (Elt F) Λ₀ .tc) PUnit} {σ' : St F}

/-! ## One memref of the sixteen -/

/-- Of what is owned at `σ`: the memref `m`, at `X`; and whatever contents it is given back at, the memrefs at `upd` of them. -/
def Cell (cc : Dev nD) (R : Refs) (σ : St F) {s : Shape} {e : EltTy} (m : Memref sig .tc .vmem s e) (X : s.Idx → Elt F e)
    (upd : (s.Idx → Elt F e) → St F) : Prop :=
  Own cc R σ ⊢ iprop(owns (cc : Thread nD τ) m fullShare X ∗ ∀ X', owns (cc : Thread nD τ) m fullShare X' -∗ Own cc R (upd X'))

theorem cell_last {α : Type} {P : α → sProp 𝕄} {X : α} : P X ⊢ iprop(P X ∗ ∀ X', P X' -∗ P X') := by
  iintro H
  isplitl [H]
  · iexact H
  · iintro %X' H'; iexact H'

theorem cell_head {α : Type} {P : α → sProp 𝕄} {A : sProp 𝕄} {X : α} : iprop(P X ∗ A) ⊢ iprop(P X ∗ ∀ X', P X' -∗ (P X' ∗ A)) := by
  iintro ⟨H, HA⟩
  isplitl [H]
  · iexact H
  · iintro %X' H'; isplitl [H']; · iexact H'
    iexact HA

theorem cell_tail {α : Type} {P A' : α → sProp 𝕄} {A B : sProp 𝕄} {X : α} (h : A ⊢ iprop(P X ∗ ∀ X', P X' -∗ A' X')) :
    iprop(B ∗ A) ⊢ iprop(P X ∗ ∀ X', P X' -∗ (B ∗ A' X')) := by
  iintro ⟨HB, HA⟩
  icases h $$ HA with ⟨HP, Hw⟩
  isplitl [HP]
  · iexact HP
  · iintro %X' H'; isplitl [HB]; · iexact HB
    iapply Hw $$ H'

variable {x0 : Vec F S256x5120 .bf16} {xb : Vec F S256x5120 .bf16} {xa : Vec F S256x5120 .bf16} {g : Vec F S1x5120 .f32} {w : Vec F S5120x3584 .fp8e4m3} {ws : Vec F S1x3584 .f32} {hw : Vec F S2x128 .f32} {q : Vec F S1x20x512x128 .bf16} {k : Vec F S512x4x128 .bf16} {v : Vec F S512x4x128 .bf16} {c : Vec F S512x5120 .fp8e4m3} {s : Vec F S1x1x512 .f32} {ca : Vec F S256x5120 .fp8e4m3} {cb : Vec F S256x5120 .fp8e4m3} {sa : Vec F S256x128 .f32} {sb : Vec F S256x128 .f32}

theorem cell_x0 : Cell cc R ⟨x0, xb, xa, g, w, ws, hw, q, k, v, c, s, ca, cb, sa, sb⟩ R.arg1 x0 fun X' => ⟨X', xb, xa, g, w, ws, hw, q, k, v, c, s, ca, cb, sa, sb⟩ := (cell_head (P := fun X' => owns (cc : Thread nD τ) R.arg1 fullShare X'))
theorem cell_xb : Cell cc R ⟨x0, xb, xa, g, w, ws, hw, q, k, v, c, s, ca, cb, sa, sb⟩ R.arg2 xb fun X' => ⟨x0, X', xa, g, w, ws, hw, q, k, v, c, s, ca, cb, sa, sb⟩ := cell_tail (cell_head (P := fun X' => owns (cc : Thread nD τ) R.arg2 fullShare X'))
theorem cell_xa : Cell cc R ⟨x0, xb, xa, g, w, ws, hw, q, k, v, c, s, ca, cb, sa, sb⟩ R.arg3 xa fun X' => ⟨x0, xb, X', g, w, ws, hw, q, k, v, c, s, ca, cb, sa, sb⟩ := cell_tail (cell_tail (cell_head (P := fun X' => owns (cc : Thread nD τ) R.arg3 fullShare X')))
theorem cell_g : Cell cc R ⟨x0, xb, xa, g, w, ws, hw, q, k, v, c, s, ca, cb, sa, sb⟩ R.arg4 g fun X' => ⟨x0, xb, xa, X', w, ws, hw, q, k, v, c, s, ca, cb, sa, sb⟩ := cell_tail (cell_tail (cell_tail (cell_head (P := fun X' => owns (cc : Thread nD τ) R.arg4 fullShare X'))))
theorem cell_w : Cell cc R ⟨x0, xb, xa, g, w, ws, hw, q, k, v, c, s, ca, cb, sa, sb⟩ R.arg5 w fun X' => ⟨x0, xb, xa, g, X', ws, hw, q, k, v, c, s, ca, cb, sa, sb⟩ := cell_tail (cell_tail (cell_tail (cell_tail (cell_head (P := fun X' => owns (cc : Thread nD τ) R.arg5 fullShare X')))))
theorem cell_ws : Cell cc R ⟨x0, xb, xa, g, w, ws, hw, q, k, v, c, s, ca, cb, sa, sb⟩ R.arg6 ws fun X' => ⟨x0, xb, xa, g, w, X', hw, q, k, v, c, s, ca, cb, sa, sb⟩ := cell_tail (cell_tail (cell_tail (cell_tail (cell_tail (cell_head (P := fun X' => owns (cc : Thread nD τ) R.arg6 fullShare X'))))))
theorem cell_hw : Cell cc R ⟨x0, xb, xa, g, w, ws, hw, q, k, v, c, s, ca, cb, sa, sb⟩ R.arg7 hw fun X' => ⟨x0, xb, xa, g, w, ws, X', q, k, v, c, s, ca, cb, sa, sb⟩ := cell_tail (cell_tail (cell_tail (cell_tail (cell_tail (cell_tail (cell_head (P := fun X' => owns (cc : Thread nD τ) R.arg7 fullShare X')))))))
theorem cell_q : Cell cc R ⟨x0, xb, xa, g, w, ws, hw, q, k, v, c, s, ca, cb, sa, sb⟩ R.arg8 q fun X' => ⟨x0, xb, xa, g, w, ws, hw, X', k, v, c, s, ca, cb, sa, sb⟩ := cell_tail (cell_tail (cell_tail (cell_tail (cell_tail (cell_tail (cell_tail (cell_head (P := fun X' => owns (cc : Thread nD τ) R.arg8 fullShare X'))))))))
theorem cell_k : Cell cc R ⟨x0, xb, xa, g, w, ws, hw, q, k, v, c, s, ca, cb, sa, sb⟩ R.arg9 k fun X' => ⟨x0, xb, xa, g, w, ws, hw, q, X', v, c, s, ca, cb, sa, sb⟩ := cell_tail (cell_tail (cell_tail (cell_tail (cell_tail (cell_tail (cell_tail (cell_tail (cell_head (P := fun X' => owns (cc : Thread nD τ) R.arg9 fullShare X')))))))))
theorem cell_v : Cell cc R ⟨x0, xb, xa, g, w, ws, hw, q, k, v, c, s, ca, cb, sa, sb⟩ R.arg10 v fun X' => ⟨x0, xb, xa, g, w, ws, hw, q, k, X', c, s, ca, cb, sa, sb⟩ := cell_tail (cell_tail (cell_tail (cell_tail (cell_tail (cell_tail (cell_tail (cell_tail (cell_tail (cell_head (P := fun X' => owns (cc : Thread nD τ) R.arg10 fullShare X'))))))))))
theorem cell_c : Cell cc R ⟨x0, xb, xa, g, w, ws, hw, q, k, v, c, s, ca, cb, sa, sb⟩ R.arg11 c fun X' => ⟨x0, xb, xa, g, w, ws, hw, q, k, v, X', s, ca, cb, sa, sb⟩ := cell_tail (cell_tail (cell_tail (cell_tail (cell_tail (cell_tail (cell_tail (cell_tail (cell_tail (cell_tail (cell_head (P := fun X' => owns (cc : Thread nD τ) R.arg11 fullShare X')))))))))))
theorem cell_s : Cell cc R ⟨x0, xb, xa, g, w, ws, hw, q, k, v, c, s, ca, cb, sa, sb⟩ R.arg12 s fun X' => ⟨x0, xb, xa, g, w, ws, hw, q, k, v, c, X', ca, cb, sa, sb⟩ := cell_tail (cell_tail (cell_tail (cell_tail (cell_tail (cell_tail (cell_tail (cell_tail (cell_tail (cell_tail (cell_tail (cell_head (P := fun X' => owns (cc : Thread nD τ) R.arg12 fullShare X'))))))))))))
theorem cell_ca : Cell cc R ⟨x0, xb, xa, g, w, ws, hw, q, k, v, c, s, ca, cb, sa, sb⟩ R.arg13 ca fun X' => ⟨x0, xb, xa, g, w, ws, hw, q, k, v, c, s, X', cb, sa, sb⟩ := cell_tail (cell_tail (cell_tail (cell_tail (cell_tail (cell_tail (cell_tail (cell_tail (cell_tail (cell_tail (cell_tail (cell_tail (cell_head (P := fun X' => owns (cc : Thread nD τ) R.arg13 fullShare X')))))))))))))
theorem cell_cb : Cell cc R ⟨x0, xb, xa, g, w, ws, hw, q, k, v, c, s, ca, cb, sa, sb⟩ R.arg14 cb fun X' => ⟨x0, xb, xa, g, w, ws, hw, q, k, v, c, s, ca, X', sa, sb⟩ := cell_tail (cell_tail (cell_tail (cell_tail (cell_tail (cell_tail (cell_tail (cell_tail (cell_tail (cell_tail (cell_tail (cell_tail (cell_tail (cell_head (P := fun X' => owns (cc : Thread nD τ) R.arg14 fullShare X'))))))))))))))
theorem cell_sa : Cell cc R ⟨x0, xb, xa, g, w, ws, hw, q, k, v, c, s, ca, cb, sa, sb⟩ R.arg15 sa fun X' => ⟨x0, xb, xa, g, w, ws, hw, q, k, v, c, s, ca, cb, X', sb⟩ := cell_tail (cell_tail (cell_tail (cell_tail (cell_tail (cell_tail (cell_tail (cell_tail (cell_tail (cell_tail (cell_tail (cell_tail (cell_tail (cell_tail (cell_head (P := fun X' => owns (cc : Thread nD τ) R.arg15 fullShare X')))))))))))))))
theorem cell_sb : Cell cc R ⟨x0, xb, xa, g, w, ws, hw, q, k, v, c, s, ca, cb, sa, sb⟩ R.arg16 sb fun X' => ⟨x0, xb, xa, g, w, ws, hw, q, k, v, c, s, ca, cb, sa, X'⟩ := cell_tail (cell_tail (cell_tail (cell_tail (cell_tail (cell_tail (cell_tail (cell_tail (cell_tail (cell_tail (cell_tail (cell_tail (cell_tail (cell_tail (cell_tail (cell_last (P := fun X' => owns (cc : Thread nD τ) R.arg16 fullShare X'))))))))))))))))

variable {p' : Prog (TpuEff nD τ sig (Elt F) Λ₀ .tc) PUnit} {σ σ' : St F}

/-- A load. -/
theorem Sim.load {s : Shape} {e : EltTy} {m : Memref sig .tc .vmem s e} {X : s.Idx → Elt F e} {upd : (s.Idx → Elt F e) → St F}
    (hc : Cell cc R σ m X upd) (hu : upd X = σ) {r : LoadRect s} {hl : m.view.LoadsAt r}
    {kk : (r.shape.Idx → Elt F e) → Prog (TpuEff nD τ sig (Elt F) Λ₀ .tc) PUnit}
    (h : Sim cc R (kk fun i => X (r.idx i)) σ p' σ') : Sim cc R (.op (.load m r hl) kk) σ p' σ' := by
  intro Q hq
  refine hc.trans ?_
  iintro ⟨H, Hw⟩
  iapply (Cert.Sim.wp_load_owns (defs := defs₀ (F := F)) Variants.none (cc : Thread nD τ) none Set.univ (m := m) (r := r) (hl := hl) (k := kk)) $$ H
  iintro H
  ihave Hσ := Hw $$ H
  rw [hu]
  iapply (h Q hq) $$ Hσ

/-- An unmasked store. -/
theorem Sim.store {s : Shape} {e : EltTy} {m : Memref sig .tc .vmem s e} {X : s.Idx → Elt F e} {upd : (s.Idx → Elt F e) → St F}
    (hc : Cell cc R σ m X upd) {r : Rect s} {w : r.shape.Idx → Elt F e} {hx : (m.access r).Stores Finset.univ}
    {hm : Finset.univ = Finset.univ ∨ ∀ a, r.stride a = 1} {kk : PUnit → Prog (TpuEff nD τ sig (Elt F) Λ₀ .tc) PUnit}
    (h : Sim cc R (kk ⟨⟩) (upd (r.overlay X w)) p' σ') :
    Sim cc R (.op (.store m r w Finset.univ hx hm) kk) σ p' σ' := by
  intro Q hq
  refine hc.trans ?_
  iintro ⟨H, Hw⟩
  iapply (Cert.Sim.wp_store_owns (defs := defs₀ (F := F)) Variants.none (cc : Thread nD τ) none Set.univ (m := m) (r := r) (w := w) (hx := hx) (hm := hm) (k := kk)) $$ H
  iintro H
  ihave Hσ := Hw $$ H
  iapply (h Q hq) $$ Hσ

end Cert.KernelIdeal.Hand

end
-- ==== Proof.Spec.lean ====
/-
  Hand-written. What one grid point computes, as functions of the contents of its memrefs: the quantiser over a tile of
  256 rows, 32 rows and 128 lanes at a time; the projection of a quantised tile, one head of 128 columns at a time.
-/
module

public import proofs.«01_k».proof.KernelIdeal
public import Idealize.ShloMosaic.Lib.Memref

@[expose] public section

noncomputable section

namespace Cert.KernelIdeal.Hand

open Idealize.ShloMosaic
open Shapes1.Facts₀ Shapes2.Facts₀

variable {F : FTy → Type} [FloatOps F] [Named F] [Facts]

/-- Row block `r` of 32 and lane slab `c` of 128, of a tile. -/
abbrev blockRect (r : Fin 8) (c : Fin 40) : Rect S256x5120 :=
  Rect.unit (s := S256x5120) ![32 * r.val, 128 * c.val] S32x128.size (by
    intro a; fin_cases a
    · show 32 * r.val + 32 ≤ 256; omega
    · show 128 * c.val + 128 ≤ 5120; omega)

/-- The same in the upper half of the output block of codes. -/
abbrev outRect (r : Fin 8) (c : Fin 40) : Rect S512x5120 :=
  Rect.unit (s := S512x5120) ![256 + 32 * r.val, 128 * c.val] S32x128.size (by
    intro a; fin_cases a
    · show 256 + 32 * r.val + 32 ≤ 512; omega
    · show 128 * c.val + 128 ≤ 5120; omega)

/-- Row block `r` of the scales. -/
abbrev scaleRect (r : Fin 8) : Rect S256x128 :=
  Rect.unit (s := S256x128) ![32 * r.val, 0] S32x128.size (by
    intro a; fin_cases a
    · show 32 * r.val + 32 ≤ 256; omega
    · show 0 + 128 ≤ 128; omega)

/-- Lane slab `c` of the norm's weight. -/
abbrev gRect (c : Fin 40) : Rect S1x5120 :=
  Rect.unit (s := S1x5120) ![0, 128 * c.val] S1x128.size (by
    intro a; fin_cases a
    · show 0 + 1 ≤ 1; omega
    · show 128 * c.val + 128 ≤ 5120; omega)

section Quantise

variable (x : Vec F S256x5120 .bf16) (g : Vec F S1x5120 .f32) (r : Fin 8)

/-- A block of the tile, widened. -/
abbrev xBlock (c : Fin 40) : FVec F S32x128 .f32 :=
  extf .f32 (shapeCast S32x128 (fun i => x ((blockRect r c).toLoadRect.idx i) : FVec F S32x128 .bf16) shapeCasts_S32x128_S32x128) bitsLt_bf16_f32

/-- A slab of the weight, on every row. -/
abbrev gBlock (c : Fin 40) : FVec F S32x128 .f32 :=
  broadcastTo S32x128 (shapeCast S1x128 (fun i => g ((gRect c).toLoadRect.idx i) : FVec F S1x128 .f32) shapeCasts_S1x128_S1x128) broadcasts_S1x128_S32x128

/-- The squares of the first `n` slabs, summed lane by lane. -/
def ssAfter : (n : ℕ) → n ≤ 40 → FVec F S32x128 .f32
  | 0, _ => broadcast S32x128 (Scalar.ofBits .f32 0x00000000#32)
  | n + 1, h => addf (ssAfter n (by omega)) (mulf (xBlock x r ⟨n, by omega⟩) (xBlock x r ⟨n, by omega⟩))

/-- The largest weighted magnitude of the first `n` slabs, lane by lane. -/
def mxAfter : (n : ℕ) → n ≤ 40 → FVec F S32x128 .f32
  | 0, _ => broadcast S32x128 (Scalar.ofBits .f32 0x00000000#32)
  | n + 1, h => maximumf (mxAfter n (by omega)) (absf (mulf (xBlock x r ⟨n, by omega⟩) (gBlock g ⟨n, by omega⟩)))

/-- The reciprocal root mean square of each row. -/
def rstdOf : FVec F S32x1 .f32 :=
  rsqrt (addf (mulf (shapeCast S32x1 (multiReduction .add [1] S32 (ssAfter x r 40 le_rfl) 0x00000000#32 reduces_S32x128_S32 (.inl rfl) rfl) shapeCasts_S32_S32x1)
    (broadcast S32x1 (Named.named κ "inv_d" 0x394CCCCD#32))) (broadcast S32x1 (Scalar.ofBits .f32 0x358637BD#32)))

/-- The largest magnitude of each normalised row. -/
def amaxOf : FVec F S32x1 .f32 :=
  mulf (shapeCast S32x1 (multiReduction .maximumf [1] S32 (mxAfter x g r 40 le_rfl) 0xFF800000#32 reduces_S32x128_S32 (.inl rfl) rfl) shapeCasts_S32_S32x1) (rstdOf x r)

/-- How many powers of two, from exponent field 0 to 255, are at most a 448th of it. -/
def countOf : IVec S32x1 32 :=
  shapeCast S32x1 (multiReductionI .add [1] S32
    (select (cmpf .olt (broadcastTo S32x256 (mulf (amaxOf x g r) (broadcast S32x1 (Scalar.ofBits .f32 0x3B124925#32))) broadcasts_S32x1_S32x256)
        (broadcastTo S32x256 (bitcastToFloat .f32 (shli (iota .tc S1x256 32 [1] iota_S1x256_d1_w32) (broadcast S1x256 23#32))) broadcasts_S1x256_S32x256))
      (broadcast S32x256 0#32) (broadcast S32x256 1#32)) 0#32 reduces_S32x256_S32 rfl) shapeCasts_S32_S32x1

/-- The exponent of each row's scale. -/
def expOf : IVec S32x1 32 :=
  select (cmpf .oeq (amaxOf x g r) (broadcast S32x1 (Scalar.ofBits .f32 0x00000000#32))) (broadcast S32x1 0#32)
    (subi (subi (countOf x g r) (broadcast S32x1 1#32)) (broadcast S32x1 126#32))

/-- Each row's scale, a power of two. -/
def scaleOf : FVec F S32x1 .f32 :=
  bitcastToFloat .f32 (shli (addi (expOf x g r) (broadcast S32x1 127#32)) (broadcast S32x1 23#32))

/-- The scale's reciprocal. -/
def invOf : FVec F S32x1 .f32 :=
  bitcastToFloat .f32 (shli (subi (broadcast S32x1 127#32) (expOf x g r)) (broadcast S32x1 23#32))

/-- The scales on every lane. -/
def scaleBlock : FVec F S32x128 .f32 :=
  shapeCast S32x128 (broadcastTo S32x128 (shapeCast S32x1 (scaleOf x g r) shapeCasts_S32x1_S32x1) broadcasts_S32x1_S32x128) shapeCasts_S32x128_S32x128

/-- What each element of a row is multiplied by, on every lane. -/
def rsBlock : FVec F S32x128 .f32 :=
  broadcastTo S32x128 (shapeCast S32x1 (mulf (rstdOf x r) (invOf x g r)) shapeCasts_S32x1_S32x1) broadcasts_S32x1_S32x128

/-- A block's codes. -/
def codeBlock (c : Fin 40) : FVec F S32x128 .fp8e4m3 :=
  truncf .fp8e4m3 (minimumf (broadcast S32x128 (Scalar.ofBits .f32 0x43E00000#32))
    (maximumf (broadcast S32x128 (Scalar.ofBits .f32 0xC3E00000#32)) (mulf (mulf (xBlock x r c) (rsBlock x g r)) (gBlock g c)))) bitsLt_fp8e4m3_f32

/-- The codes buffer after the first `n` slabs of a row block. -/
def codesAfter (buf : Vec F S256x5120 .fp8e4m3) : (n : ℕ) → n ≤ 40 → Vec F S256x5120 .fp8e4m3
  | 0, _ => buf
  | n + 1, h => (blockRect r ⟨n, by omega⟩).overlay (codesAfter buf n (by omega)) (shapeCast S32x128 (codeBlock x g r ⟨n, by omega⟩) shapeCasts_S32x128_S32x128)

/-- The output block of codes after the first `n` slabs of a row block. -/
def outAfter (buf : Vec F S512x5120 .fp8e4m3) : (n : ℕ) → n ≤ 40 → Vec F S512x5120 .fp8e4m3
  | 0, _ => buf
  | n + 1, h => (outRect r ⟨n, by omega⟩).overlay (outAfter buf n (by omega)) (codeBlock x g r ⟨n, by omega⟩)

end Quantise

section Tile

variable (x : Vec F S256x5120 .bf16) (g : Vec F S1x5120 .f32)

/-- The codes buffer after the first `n` row blocks. -/
def codesRows (buf : Vec F S256x5120 .fp8e4m3) : (n : ℕ) → n ≤ 8 → Vec F S256x5120 .fp8e4m3
  | 0, _ => buf
  | n + 1, h => codesAfter x g ⟨n, by omega⟩ (codesRows buf n (by omega)) 40 le_rfl

/-- The output block of codes after the first `n` row blocks. -/
def outRows (buf : Vec F S512x5120 .fp8e4m3) : (n : ℕ) → n ≤ 8 → Vec F S512x5120 .fp8e4m3
  | 0, _ => buf
  | n + 1, h => outAfter x g ⟨n, by omega⟩ (outRows buf n (by omega)) 40 le_rfl

/-- The scales buffer after the first `n` row blocks. -/
def scaleRows (buf : Vec F S256x128 .f32) : (n : ℕ) → n ≤ 8 → Vec F S256x128 .f32
  | 0, _ => buf
  | n + 1, h => (scaleRect ⟨n, by omega⟩).overlay (scaleRows buf n (by omega)) (scaleBlock x g ⟨n, by omega⟩)

end Tile

section Project

variable (codes : Vec F S256x5120 .fp8e4m3) (sc : Vec F S256x128 .f32) (w : Vec F S5120x3584 .fp8e4m3) (ws : Vec F S1x3584 .f32)
  (hw : Vec F S2x128 .f32)

/-- Columns `512 j` to `512 j + 511` of the weight. -/
abbrev wRect (j : Fin 7) : Rect S5120x3584 :=
  Rect.unit (s := S5120x3584) ![0, 512 * j.val] S5120x512.size (by
    intro a; fin_cases a
    · show 0 + 5120 ≤ 5120; omega
    · show 512 * j.val + 512 ≤ 3584; omega)

/-- The whole codes buffer. -/
abbrev allCodes : Rect S256x5120 :=
  Rect.unit (s := S256x5120) ![0, 0] S256x5120.size (by
    intro a; fin_cases a
    · show 0 + 256 ≤ 256; omega
    · show 0 + 5120 ≤ 5120; omega)

/-- The whole scales buffer. -/
abbrev allScales : Rect S256x128 :=
  Rect.unit (s := S256x128) ![0, 0] S256x128.size (by
    intro a; fin_cases a
    · show 0 + 256 ≤ 256; omega
    · show 0 + 128 ≤ 128; omega)

/-- The weight's scales of head `n`. -/
abbrev wsRect (n : Fin 28) : Rect S1x3584 :=
  Rect.unit (s := S1x3584) ![0, 128 * n.val] S1x128.size (by
    intro a; fin_cases a
    · show 0 + 1 ≤ 1; omega
    · show 128 * n.val + 128 ≤ 3584; omega)

/-- Row `b` of the head norms' weights. -/
abbrev hwRect (b : Fin 2) : Rect S2x128 :=
  Rect.unit (s := S2x128) ![b.val, 0] S1x128.size (by
    intro a; fin_cases a
    · show b.val + 1 ≤ 2; omega
    · show 0 + 128 ≤ 128; omega)

theorem headSlices (h : Fin 4) : S256x512.Slices ![0, 128 * h.val] S256x128 :=
  ⟨rfl, by
    intro a; fin_cases a
    · show 0 + 256 ≤ 256; omega
    · show 128 * h.val + 128 ≤ 512; omega⟩

/-- Columns `512 j` to `512 j + 511` of the product of the codes. -/
def accOf (j : Fin 7) : FVec F S256x512 .f32 :=
  matmul dot_S256x5120_S5120x512_S256x512_1_0_0_1_n_n none (fun i => codes (allCodes.toLoadRect.idx i) : FVec F S256x5120 .fp8e4m3)
    (fun i => w ((wRect j).toLoadRect.idx i) : FVec F S5120x512 .fp8e4m3) (constant S256x512 .f32 0x00000000#32)

/-- Head `n` of the projection. -/
def headOf (n : Fin 28) : FVec F S256x128 .f32 :=
  mulf (mulf (extractStridedSlice S256x128 ![0, 128 * (⟨n.val % 4, by omega⟩ : Fin 4).val] (accOf codes w ⟨n.val / 4, by omega⟩) (headSlices ⟨n.val % 4, by omega⟩))
      (fun i => sc (allScales.toLoadRect.idx i) : FVec F S256x128 .f32))
    (broadcastTo S256x128 (shapeCast S1x128 (fun i => ws ((wsRect n).toLoadRect.idx i) : FVec F S1x128 .f32) shapeCasts_S1x128_S1x128) broadcasts_S1x128_S256x128)

/-- The norm of a head, with row `b` of the head norms' weights. -/
def normed (b : Fin 2) (y : FVec F S256x128 .f32) : FVec F S256x128 .f32 :=
  mulf (mulf y (broadcastTo S256x128 (rsqrt (addf (mulf (shapeCast S256x1 (multiReduction .add [1] S256 (mulf y y) 0x00000000#32 reduces_S256x128_S256 (.inl rfl) rfl) shapeCasts_S256_S256x1)
      (broadcast S256x1 (Scalar.ofBits .f32 0x3C000000#32))) (broadcast S256x1 (Scalar.ofBits .f32 0x358637BD#32)))) broadcasts_S256x1_S256x128))
    (broadcastTo S256x128 (shapeCast S1x128 (fun i => hw ((hwRect b).toLoadRect.idx i) : FVec F S1x128 .f32) shapeCasts_S1x128_S1x128) broadcasts_S1x128_S256x128)

/-- Rows `256 b` to `256 b + 255` of head `n` of a block of queries. -/
abbrev qRect (b : Fin 2) (n : Fin 20) : Rect S1x20x512x128 :=
  Rect.unit (s := S1x20x512x128) ![0, n.val, 256 * b.val, 0] S1x1x256x128.size (by
    intro a; fin_cases a
    · show 0 + 1 ≤ 1; omega
    · show n.val + 1 ≤ 20; omega
    · show 256 * b.val + 256 ≤ 512; omega
    · show 0 + 128 ≤ 128; omega)

/-- Rows `256 b` to `256 b + 255` of the pair of heads that head `n` is of, in a block of keys or values. -/
abbrev kvRect (b : Fin 2) (n : Fin 4) : Rect S512x4x128 :=
  Rect.unit (s := S512x4x128) ![256 * b.val, 2 * (n.val / 2), 0] S256x2x128.size (by
    intro a; fin_cases a
    · show 256 * b.val + 256 ≤ 512; omega
    · show 2 * (n.val / 2) + 2 ≤ 4; omega
    · show 0 + 128 ≤ 128; omega)

theorem pairSlices (h : Fin 2) : S256x2x128.Slices ![0, h.val, 0] S256x1x128 :=
  ⟨rfl, by
    intro a; fin_cases a
    · show 0 + 256 ≤ 256; omega
    · show h.val + 1 ≤ 2; omega
    · show 0 + 128 ≤ 128; omega⟩

/-- Head `n` of a tile's queries. -/
def qHead (n : Fin 20) : FVec F S256x128 .bf16 :=
  truncf .bf16 (normed hw 0 (headOf codes sc w ws ⟨n.val, by omega⟩)) bitsLt_bf16_f32

/-- Head `n` of a tile's keys. -/
def kHead (n : Fin 4) : FVec F S256x128 .bf16 :=
  truncf .bf16 (normed hw 1 (headOf codes sc w ws ⟨20 + n.val, by omega⟩)) bitsLt_bf16_f32

/-- Head `n` of a tile's values. -/
def vHead (n : Fin 4) : FVec F S256x128 .bf16 :=
  truncf .bf16 (headOf codes sc w ws ⟨24 + n.val, by omega⟩) bitsLt_bf16_f32

/-- One head of a pair, put into half a block of keys or values. -/
def putHead (b : Fin 2) (n : Fin 4) (y : FVec F S256x128 .bf16) (buf : Vec F S512x4x128 .bf16) : Vec F S512x4x128 .bf16 :=
  (kvRect b n).overlay buf (updateSlice (fun i => buf ((kvRect b n).toLoadRect.idx i) : FVec F S256x2x128 .bf16)
    (shapeCast S256x1x128 y shapeCasts_S256x128_S256x1x128) ![0, (⟨n.val % 2, by omega⟩ : Fin 2).val, 0] (pairSlices ⟨n.val % 2, by omega⟩))

/-- The block of queries after the first `n` heads of half `b`. -/
def qAfter (b : Fin 2) (buf : Vec F S1x20x512x128 .bf16) : (n : ℕ) → n ≤ 20 → Vec F S1x20x512x128 .bf16
  | 0, _ => buf
  | n + 1, h => (qRect b ⟨n, by omega⟩).overlay (qAfter b buf n (by omega))
      (shapeCast S1x1x256x128 (qHead codes sc w ws hw ⟨n, by omega⟩) shapeCasts_S256x128_S1x1x256x128)

/-- The block of keys after the first `n` heads of half `b`. -/
def kAfter (b : Fin 2) (buf : Vec F S512x4x128 .bf16) : (n : ℕ) → n ≤ 4 → Vec F S512x4x128 .bf16
  | 0, _ => buf
  | n + 1, h => putHead b ⟨n, by omega⟩ (kHead codes sc w ws hw ⟨n, by omega⟩) (kAfter b buf n (by omega))

/-- The block of values after the first `n` heads of half `b`. -/
def vAfter (b : Fin 2) (buf : Vec F S512x4x128 .bf16) : (n : ℕ) → n ≤ 4 → Vec F S512x4x128 .bf16
  | 0, _ => buf
  | n + 1, h => putHead b ⟨n, by omega⟩ (vHead codes sc w ws ⟨n, by omega⟩) (vAfter b buf n (by omega))

end Project

section Point

/-- The lower half of the output block of codes. -/
abbrev lowCodes : Rect S512x5120 :=
  Rect.unit (s := S512x5120) ![0, 0] S256x5120.size (by
    intro a; fin_cases a
    · show 0 + 256 ≤ 512; omega
    · show 0 + 5120 ≤ 5120; omega)

/-- The output block of codes with the lower half put in. -/
def copyLow (codes : Vec F S256x5120 .fp8e4m3) (buf : Vec F S512x5120 .fp8e4m3) : Vec F S512x5120 .fp8e4m3 :=
  lowCodes.overlay buf (fun i => codes (allCodes.toLoadRect.idx i))

/-- Half `b` of the scales buffer. -/
abbrev halfScales (b : Fin 2) : Rect S256x128 :=
  Rect.unit (s := S256x128) ![128 * b.val, 0] S128x128.size (by
    intro a; fin_cases a
    · show 128 * b.val + 128 ≤ 256; omega
    · show 0 + 128 ≤ 128; omega)

/-- Quarter `n` of the output block of scales. -/
abbrev sRect (n : Fin 4) : Rect S1x1x512 :=
  Rect.unit (s := S1x1x512) ![0, 0, 128 * n.val] S1x1x128.size (by
    intro a; fin_cases a
    · show 0 + 1 ≤ 1; omega
    · show 0 + 1 ≤ 1; omega
    · show 128 * n.val + 128 ≤ 512; omega)

/-- 128 rows' scales, along the lanes. -/
def scaleLane (sc : Vec F S256x128 .f32) (b : Fin 2) : FVec F S1x1x128 .f32 :=
  shapeCast S1x1x128 (extractStridedSlice S1x128 ![0, 0] (transpose S128x128 [1, 0] (fun i => sc ((halfScales b).toLoadRect.idx i) : FVec F S128x128 .f32)
    transposes_S128x128_p1_0_S128x128) slices_S128x128_o0_0_S1x128) shapeCasts_S1x128_S1x1x128

/-- The output block of scales. -/
def sOf (sa sb : Vec F S256x128 .f32) (buf : Vec F S1x1x512 .f32) : Vec F S1x1x512 .f32 :=
  (sRect 3).overlay ((sRect 1).overlay ((sRect 2).overlay ((sRect 0).overlay buf (scaleLane sa 0)) (scaleLane sb 0)) (scaleLane sa 1)) (scaleLane sb 1)

end Point

end Cert.KernelIdeal.Hand

end
-- ==== Proof.Copy.lean ====
/-
  Hand-written. The first effect of a grid point past its branch: the copy of the even tile's codes. The rest of the body from there.
-/
module

public import proofs.«01_k».proof.Proof.Own
public import proofs.«01_k».proof.Proof.Spec

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- Whether a grid point is the first, as the body computes it. -/
abbrev isFirst (i : grid0.Coords) : BitVec 1 :=
  Scalar.cmpi .ne (Scalar.extui (Scalar.cmpi .eq (BitVec.ofNat 32 (i 0).val) 0#32) : BitVec 32) 0#32

/-- At a point that is not the first, the copy is the first thing done; what remains is the same whatever the memrefs hold. -/
def copied (i : grid0.Coords) : { p' // ∀ (_ : isFirst i = 0#1) (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (R.body (F := F) i) ⟨x0, xb, xa, g, w, ws, hw, q, k, v, c, s, ca, cb, sa, sb⟩ p'
      ⟨x0, xb, xa, g, w, ws, hw, q, k, v, copyLow ca c, s, ca, cb, sa, sb⟩ } := by
  refine ⟨?_, fun hi x0 xb xa g w ws hw q k v c s ca cb sa sb => ?_⟩
  rotate_left 1
  · unfold Refs.body cc0_qkv k0_part731 k0_part227
    dsimp only []
    rw [show Scalar.cmpi .ne (Scalar.extui (Scalar.cmpi .eq (BitVec.ofNat 32 (i 0).val) 0#32) : BitVec 32) 0#32 = 0#1 from hi]
    refine Sim.load cell_ca rfl ?_
    refine Sim.load cell_c rfl ?_
    refine Sim.store cell_c ?_
    exact @Sim.refl F _ _ _ cc R _ _

end Cert.KernelIdeal.Hand

end
-- ==== Proof.First.lean ====
/-
  Hand-written. The first grid point's branch: the quantisation of tile 0.
-/
module

public import proofs.«01_k».proof.Proof.Own
public import proofs.«01_k».proof.Proof.Spec
public import proofs.«01_k».proof.Proof.Copy

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- At the first point the even tile is quantised first. -/
def quantised0 (i : grid0.Coords) : { p' // ∀ (_ : isFirst i = 1#1) (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (R.body (F := F) i) ⟨x0, xb, xa, g, w, ws, hw, q, k, v, c, s, ca, cb, sa, sb⟩ p'
      ⟨x0, xb, xa, g, w, ws, hw, q, k, v, c, s, codesRows x0 g ca 8 le_rfl, cb, scaleRows x0 g sa 8 le_rfl, sb⟩ } := by
  refine ⟨?_, fun hi x0 xb xa g w ws hw q k v c s ca cb sa sb => ?_⟩
  rotate_left 1
  · unfold Refs.body cc0_qkv k0_part731 k0_part227
    dsimp only []
    rw [show Scalar.cmpi .ne (Scalar.extui (Scalar.cmpi .eq (BitVec.ofNat 32 (i 0).val) 0#32) : BitVec 32) 0#32 = 1#1 from hi]
    iterate 8
      iterate 40
        refine Sim.load cell_x0 rfl ?_
        refine Sim.load cell_g rfl ?_
      refine Sim.load cell_sa rfl ?_
      refine Sim.store cell_sa ?_
      iterate 40
        refine Sim.load cell_x0 rfl ?_
        refine Sim.load cell_g rfl ?_
        refine Sim.load cell_ca rfl ?_
        refine Sim.store cell_ca ?_
    exact @Sim.refl F _ _ _ cc R _ _

/-- Then its codes are copied; what remains is what remains at the other points. -/
theorem first (i : grid0.Coords) : Sim cc R (quantised0 (F := F) cc R i).1 ⟨x0, xb, xa, g, w, ws, hw, q, k, v, c, s, ca, cb, sa, sb⟩ (copied (F := F) cc R i).1
      ⟨x0, xb, xa, g, w, ws, hw, q, k, v, copyLow ca c, s, ca, cb, sa, sb⟩ := by
  unfold quantised0
  refine Sim.load cell_ca rfl ?_
  refine Sim.load cell_c rfl ?_
  refine Sim.store cell_c ?_
  exact @Sim.refl F _ _ _ cc R _ _

end Cert.KernelIdeal.Hand

end
-- ==== Proof.ProjectA.lean ====
/-
  Hand-written. The projection of the even tile.
-/
module

public import proofs.«01_k».proof.Proof.Own
public import proofs.«01_k».proof.Proof.Spec
public import proofs.«01_k».proof.Proof.Copy

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- After the copy, the even tile is projected into the lower half of the blocks. -/
def projectedA (i : grid0.Coords) : { p' // ∀ (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (copied (F := F) cc R i).1 ⟨x0, xb, xa, g, w, ws, hw, q, k, v, c, s, ca, cb, sa, sb⟩ p'
      ⟨x0, xb, xa, g, w, ws, hw, qAfter ca sa w ws hw 0 q 20 le_rfl, kAfter ca sa w ws hw 0 k 4 le_rfl,
        vAfter ca sa w ws 0 v 4 le_rfl, c, s, ca, cb, sa, sb⟩ } := by
  refine ⟨?_, fun x0 xb xa g w ws hw q k v c s ca cb sa sb => ?_⟩
  rotate_left 1
  · unfold copied
    iterate 5
      refine Sim.load cell_ca rfl ?_
      refine Sim.load cell_w rfl ?_
      iterate 4
        refine Sim.load cell_sa rfl ?_
        refine Sim.load cell_ws rfl ?_
        refine Sim.load cell_hw rfl ?_
        refine Sim.load cell_q rfl ?_
        refine Sim.store cell_q ?_
    refine Sim.load cell_ca rfl ?_
    refine Sim.load cell_w rfl ?_
    iterate 4
      refine Sim.load cell_sa rfl ?_
      refine Sim.load cell_ws rfl ?_
      refine Sim.load cell_hw rfl ?_
      refine Sim.load cell_k rfl ?_
      refine Sim.load cell_k rfl ?_
      refine Sim.store cell_k ?_
    refine Sim.load cell_ca rfl ?_
    refine Sim.load cell_w rfl ?_
    iterate 4
      refine Sim.load cell_sa rfl ?_
      refine Sim.load cell_ws rfl ?_
      refine Sim.load cell_v rfl ?_
      refine Sim.load cell_v rfl ?_
      refine Sim.store cell_v ?_
    exact @Sim.refl F _ _ _ cc R _ _

end Cert.KernelIdeal.Hand

end
-- ==== Proof.QuantiseB.lean ====
/-
  Hand-written. The quantisation of the odd tile.
-/
module

public import proofs.«01_k».proof.Proof.Own
public import proofs.«01_k».proof.Proof.Spec
public import proofs.«01_k».proof.Proof.ProjectA

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- After the even tile's projection, the odd tile is quantised, its codes also written to the upper half of their output block. -/
def quantisedB (i : grid0.Coords) : { p' // ∀ (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (projectedA (F := F) cc R i).1 ⟨x0, xb, xa, g, w, ws, hw, q, k, v, c, s, ca, cb, sa, sb⟩ p'
      ⟨x0, xb, xa, g, w, ws, hw, q, k, v, outRows xb g c 8 le_rfl, s, ca, codesRows xb g cb 8 le_rfl, sa, scaleRows xb g sb 8 le_rfl⟩ } := by
  refine ⟨?_, fun x0 xb xa g w ws hw q k v c s ca cb sa sb => ?_⟩
  rotate_left 1
  · unfold projectedA
    iterate 8
      iterate 40
        refine Sim.load cell_xb rfl ?_
        refine Sim.load cell_g rfl ?_
      refine Sim.load cell_sb rfl ?_
      refine Sim.store cell_sb ?_
      iterate 40
        refine Sim.load cell_xb rfl ?_
        refine Sim.load cell_g rfl ?_
        refine Sim.load cell_cb rfl ?_
        refine Sim.store cell_cb ?_
        refine Sim.load cell_c rfl ?_
        refine Sim.store cell_c ?_
    exact @Sim.refl F _ _ _ cc R _ _

end Cert.KernelIdeal.Hand

end
-- ==== Proof.ProjectB.lean ====
/-
  Hand-written. The scales' output block and the projection of the odd tile.
-/
module

public import proofs.«01_k».proof.Proof.Own
public import proofs.«01_k».proof.Proof.Spec
public import proofs.«01_k».proof.Proof.QuantiseB

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- After the odd tile's quantisation, both tiles' scales are written to their output block. -/
def scaled (i : grid0.Coords) : { p' // ∀ (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (quantisedB (F := F) cc R i).1 ⟨x0, xb, xa, g, w, ws, hw, q, k, v, c, s, ca, cb, sa, sb⟩ p'
      ⟨x0, xb, xa, g, w, ws, hw, q, k, v, c, sOf sa sb s, ca, cb, sa, sb⟩ } := by
  refine ⟨?_, fun x0 xb xa g w ws hw q k v c s ca cb sa sb => ?_⟩
  rotate_left 1
  · unfold quantisedB
    iterate 2
      refine Sim.load cell_sa rfl ?_
      refine Sim.load cell_s rfl ?_
      refine Sim.store cell_s ?_
      refine Sim.load cell_sb rfl ?_
      refine Sim.load cell_s rfl ?_
      refine Sim.store cell_s ?_
    exact @Sim.refl F _ _ _ cc R _ _

/-- After that, the odd tile is projected into the upper half of the blocks. -/
def projectedB (i : grid0.Coords) : { p' // ∀ (x0 xb xa : Vec F S256x5120 .bf16) (g : Vec F S1x5120 .f32) (w : Vec F S5120x3584 .fp8e4m3)
    (ws : Vec F S1x3584 .f32) (hw : Vec F S2x128 .f32) (q : Vec F S1x20x512x128 .bf16) (k v : Vec F S512x4x128 .bf16) (c : Vec F S512x5120 .fp8e4m3)
    (s : Vec F S1x1x512 .f32) (ca cb : Vec F S256x5120 .fp8e4m3) (sa sb : Vec F S256x128 .f32),
    Sim cc R (scaled (F := F) cc R i).1 ⟨x0, xb, xa, g, w, ws, hw, q, k, v, c, s, ca, cb, sa, sb⟩ p'
      ⟨x0, xb, xa, g, w, ws, hw, qAfter cb sb w ws hw 1 q 20 le_rfl, kAfter cb sb w ws hw 1 k 4 le_rfl,
        vAfter cb sb w ws 1 v 4 le_rfl, c, s, ca, cb, sa, sb⟩ } := by
  refine ⟨?_, fun x0 xb xa g w ws hw q k v c s ca cb sa sb => ?_⟩
  rotate_left 1
  · unfold scaled
    iterate 5
      refine Sim.load cell_cb rfl ?_
      refine Sim.load cell_w rfl ?_
      iterate 4
        refine Sim.load cell_sb rfl ?_
        refine Sim.load cell_ws rfl ?_
        refine Sim.load cell_hw rfl ?_
        refine Sim.load cell_q rfl ?_
        refine Sim.store cell_q ?_
    refine Sim.load cell_cb rfl ?_
    refine Sim.load cell_w rfl ?_
    iterate 4
      refine Sim.load cell_sb rfl ?_
      refine Sim.load cell_ws rfl ?_
      refine Sim.load cell_hw rfl ?_
      refine Sim.load cell_k rfl ?_
      refine Sim.load cell_k rfl ?_
      refine Sim.store cell_k ?_
    refine Sim.load cell_cb rfl ?_
    refine Sim.load cell_w rfl ?_
    iterate 4
      refine Sim.load cell_sb rfl ?_
      refine Sim.load cell_ws rfl ?_
      refine Sim.load cell_v rfl ?_
      refine Sim.load cell_v rfl ?_
      refine Sim.store cell_v ?_
    exact @Sim.refl F _ _ _ cc R _ _

end Cert.KernelIdeal.Hand

end
-- ==== Proof.QuantiseA.lean ====
/-
  Hand-written. The quantisation of the next even tile, the last thing a grid point does.
-/
module

public import proofs.«01_k».proof.Proof.Own
public import proofs.«01_k».proof.Proof.Spec
public import proofs.«01_k».proof.Proof.ProjectB

@[expose] public section

set_option maxHeartbeats 0
set_option maxRecDepth 100000

noncomputable section

namespace Cert.KernelIdeal.Hand

open Idealize.ShloMosaic Idealize.ShloMosaic.TcCoe Idealize.ShloMosaic.Tactic
open Idealize.SL Idealize.SL.Sem

variable {F : FTy → Type} [FloatOps F] [Named F] [Facts] (cc : Dev nD) (R : Refs)
variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- After the odd tile's projection, the next even tile is quantised, and the point is done. -/
theorem quantisedA (i : grid0.Coords) : Sim cc R (projectedB (F := F) cc R i).1 ⟨x0, xb, xa, g, w, ws, hw, q, k, v, c, s, ca, cb, sa, sb⟩ (.ret ⟨⟩)
      ⟨x0, xb, xa, g, w, ws, hw, q, k, v, c, s, codesRows xa g ca 8 le_rfl, cb, scaleRows xa g sa 8 le_rfl, sb⟩ := by
  unfold projectedB
  iterate 8
    iterate 40
      refine Sim.load cell_xa rfl ?_
      refine Sim.load cell_g rfl ?_
    refine Sim.load cell_sa rfl ?_
    refine Sim.store cell_sa ?_
    iterate 40
      refine Sim.load cell_xa rfl ?_
      refine Sim.load cell_g rfl ?_
      refine Sim.load cell_ca rfl ?_
      refine Sim.store cell_ca ?_
  exact @Sim.refl F _ _ _ cc R _ _

end Cert.KernelIdeal.Hand

end
-- ==== Proof.Blocks.lean ====
/-
  Hand-written. What the buffers and the output blocks hold once a tile is quantised or projected, element by element: whatever
  they held before is overwritten.
-/
module

public import proofs.«01_k».proof.Proof.Spec
public import Idealize.ShloMosaic.Lib.PointwiseCore

@[expose] public section

noncomputable section

namespace Cert.KernelIdeal.Hand

open Idealize.ShloMosaic
open Shapes1.Facts₀ Shapes2.Facts₀

/-! ## A rectangle of a buffer replaced -/

theorem overlay_in {s : Shape} {α : Type} {off size : Fin s.rank → ℕ} {inb : ∀ a, off a + size a ≤ s.size a} (X : s.Idx → α)
    (w : (Rect.unit off size inb).shape.Idx → α) (y : s.Idx) (j : (Rect.unit off size inb).shape.Idx) (h : ∀ a, (y a : ℕ) = off a + (j a : ℕ)) :
    (Rect.unit off size inb).overlay X w y = w j := by
  have e : y = (Rect.unit off size inb).emb j := by
    funext a; apply Fin.ext
    show (y a : ℕ) = off a + 1 * (j a : ℕ)
    rw [Nat.one_mul]; exact h a
  rw [e, Rect.overlay_emb]

theorem overlay_out {s : Shape} {α : Type} {off size : Fin s.rank → ℕ} {inb : ∀ a, off a + size a ≤ s.size a} (X : s.Idx → α)
    (w : (Rect.unit off size inb).shape.Idx → α) (y : s.Idx) (a : Fin s.rank) (h : ¬ (off a ≤ y a ∧ (y a : ℕ) < off a + size a)) :
    (Rect.unit off size inb).overlay X w y = X y :=
  Rect.overlay_of_not_mem _ _ _ fun hm => h (Rect.mem_set_unit.1 hm a)

variable {F : FTy → Type} [FloatOps F] [Named F] [Facts]

/-! ## The quantised tile -/

section Quantise

variable (x : Vec F S256x5120 .bf16) (g : Vec F S1x5120 .f32)

/-- A tile's codes. -/
def codesOf : Vec F S256x5120 .fp8e4m3 := fun y =>
  codeBlock x g ⟨(y 0).val / 32, by have : (y 0).val < 256 := (y 0).isLt; omega⟩ ⟨(y 1).val / 128, by have : (y 1).val < 5120 := (y 1).isLt; omega⟩
    (ix2 ⟨(y 0).val % 32, by omega⟩ ⟨(y 1).val % 128, by omega⟩)

/-- A tile's scales, on every lane. -/
def scalesOf : Vec F S256x128 .f32 := fun y =>
  scaleBlock x g ⟨(y 0).val / 32, by have : (y 0).val < 256 := (y 0).isLt; omega⟩ (ix2 ⟨(y 0).val % 32, by omega⟩ (y 1))

theorem codesAfter_in (r : Fin 8) (buf : Vec F S256x5120 .fp8e4m3) (y : S256x5120.Idx) (hr : (y 0).val / 32 = r.val) :
    ∀ (n : ℕ) (h : n ≤ 40), (y 1).val / 128 < n → codesAfter x g r buf n h y = codesOf x g y
  | 0, _, hn => by omega
  | n + 1, h, hn => by
    unfold codesAfter
    by_cases e : (y 1).val / 128 = n
    · rw [overlay_in (s := S256x5120) (size := S32x128.size) _ _ y (ix2 (⟨(y 0).val % 32, by omega⟩ : Fin 32) (⟨(y 1).val % 128, by omega⟩ : Fin 128)) (fun a => by
        fin_cases a
        · show (y 0).val = 32 * r.val + (y 0).val % 32; omega
        · show (y 1).val = 128 * n + (y 1).val % 128; omega), shapeCast_id]
      unfold codesOf
      have er : ∀ h, (⟨(y 0).val / 32, h⟩ : Fin 8) = r := fun _ => Fin.ext hr
      rw [er]
      subst e; rfl
    · rw [overlay_out _ _ y 1 (by show ¬ (128 * n ≤ (y 1).val ∧ (y 1).val < 128 * n + 128); omega)]
      exact codesAfter_in r buf y hr n (by omega) (by omega)

theorem codesAfter_out (r : Fin 8) (buf : Vec F S256x5120 .fp8e4m3) (y : S256x5120.Idx) (hr : (y 0).val / 32 ≠ r.val) :
    ∀ (n : ℕ) (h : n ≤ 40), codesAfter x g r buf n h y = buf y
  | 0, _ => rfl
  | n + 1, h => by
    unfold codesAfter
    rw [overlay_out _ _ y 0 (by show ¬ (32 * r.val ≤ (y 0).val ∧ (y 0).val < 32 * r.val + 32); omega)]
    exact codesAfter_out r buf y hr n (by omega)

theorem codesRows_in (buf : Vec F S256x5120 .fp8e4m3) (y : S256x5120.Idx) :
    ∀ (n : ℕ) (h : n ≤ 8), (y 0).val / 32 < n → codesRows x g buf n h y = codesOf x g y
  | 0, _, hn => by omega
  | n + 1, h, hn => by
    unfold codesRows
    by_cases e : (y 0).val / 32 = n
    · exact codesAfter_in x g ⟨n, by omega⟩ _ y e 40 le_rfl (by have : (y 1).val < 5120 := (y 1).isLt; omega)
    · rw [codesAfter_out x g ⟨n, by omega⟩ _ y e]
      exact codesRows_in buf y n (by omega) (by omega)

/-- Whatever the codes buffer held, a quantised tile leaves its codes there. -/
theorem codesRows_eq (buf : Vec F S256x5120 .fp8e4m3) : codesRows x g buf 8 le_rfl = codesOf x g :=
  funext fun y => codesRows_in x g buf y 8 le_rfl (by have : (y 0).val < 256 := (y 0).isLt; omega)

theorem scaleRows_in (buf : Vec F S256x128 .f32) (y : S256x128.Idx) :
    ∀ (n : ℕ) (h : n ≤ 8), (y 0).val / 32 < n → scaleRows x g buf n h y = scalesOf x g y
  | 0, _, hn => by omega
  | n + 1, h, hn => by
    unfold scaleRows
    by_cases e : (y 0).val / 32 = n
    · rw [overlay_in (s := S256x128) (size := S32x128.size) _ _ y (ix2 (⟨(y 0).val % 32, by omega⟩ : Fin 32) (y 1)) (fun a => by
        fin_cases a
        · show (y 0).val = 32 * n + (y 0).val % 32; omega
        · show (y 1).val = 0 + (y 1).val; omega)]
      unfold scalesOf
      subst e; rfl
    · rw [overlay_out _ _ y 0 (by show ¬ (32 * n ≤ (y 0).val ∧ (y 0).val < 32 * n + 32); omega)]
      exact scaleRows_in buf y n (by omega) (by omega)

/-- Whatever the scales buffer held, a quantised tile leaves its scales there. -/
theorem scaleRows_eq (buf : Vec F S256x128 .f32) : scaleRows x g buf 8 le_rfl = scalesOf x g :=
  funext fun y => scaleRows_in x g buf y 8 le_rfl (by have : (y 0).val < 256 := (y 0).isLt; omega)

/-- Two tiles' codes, one above the other. -/
def twoCodes (ca cb : Vec F S256x5120 .fp8e4m3) : Vec F S512x5120 .fp8e4m3 := fun y =>
  if h : (y 0).val < 256 then ca (ix2 ⟨(y 0).val, h⟩ (y 1)) else cb (ix2 ⟨(y 0).val - 256, by have : (y 0).val < 512 := (y 0).isLt; omega⟩ (y 1))

theorem outAfter_in (r : Fin 8) (ca : Vec F S256x5120 .fp8e4m3) (buf : Vec F S512x5120 .fp8e4m3) (y : S512x5120.Idx) (h6 : 256 ≤ (y 0).val)
    (hr : ((y 0).val - 256) / 32 = r.val) :
    ∀ (n : ℕ) (h : n ≤ 40), (y 1).val / 128 < n → outAfter x g r buf n h y = twoCodes ca (codesOf x g) y
  | 0, _, hn => by omega
  | n + 1, h, hn => by
    unfold outAfter
    by_cases e : (y 1).val / 128 = n
    · rw [overlay_in (s := S512x5120) (size := S32x128.size) _ _ y (ix2 (⟨((y 0).val - 256) % 32, by omega⟩ : Fin 32) (⟨(y 1).val % 128, by omega⟩ : Fin 128)) (fun a => by
        fin_cases a
        · show (y 0).val = 256 + 32 * r.val + ((y 0).val - 256) % 32; omega
        · show (y 1).val = 128 * n + (y 1).val % 128; omega)]
      unfold twoCodes codesOf
      rw [dif_neg (by omega)]
      obtain ⟨r, hr'⟩ := r
      change ((y 0).val - 256) / 32 = r at hr
      subst hr
      subst e; rfl
    · rw [overlay_out _ _ y 1 (by show ¬ (128 * n ≤ (y 1).val ∧ (y 1).val < 128 * n + 128); omega)]
      exact outAfter_in r ca buf y h6 hr n (by omega) (by omega)

theorem outAfter_out (r : Fin 8) (buf : Vec F S512x5120 .fp8e4m3) (y : S512x5120.Idx) (hr : (y 0).val < 256 ∨ ((y 0).val - 256) / 32 ≠ r.val) :
    ∀ (n : ℕ) (h : n ≤ 40), outAfter x g r buf n h y = buf y
  | 0, _ => rfl
  | n + 1, h => by
    unfold outAfter
    rw [overlay_out _ _ y 0 (by show ¬ (256 + 32 * r.val ≤ (y 0).val ∧ (y 0).val < 256 + 32 * r.val + 32); omega)]
    exact outAfter_out r buf y hr n (by omega)

theorem outRows_in (ca : Vec F S256x5120 .fp8e4m3) (buf : Vec F S512x5120 .fp8e4m3) (y : S512x5120.Idx) (h6 : 256 ≤ (y 0).val) :
    ∀ (n : ℕ) (h : n ≤ 8), ((y 0).val - 256) / 32 < n → outRows x g buf n h y = twoCodes ca (codesOf x g) y
  | 0, _, hn => by omega
  | n + 1, h, hn => by
    unfold outRows
    by_cases e : ((y 0).val - 256) / 32 = n
    · exact outAfter_in x g ⟨n, by omega⟩ ca _ y h6 e 40 le_rfl (by have : (y 1).val < 5120 := (y 1).isLt; omega)
    · rw [outAfter_out x g ⟨n, by omega⟩ _ y (Or.inr e)]
      exact outRows_in ca buf y h6 n (by omega) (by omega)

theorem outRows_out (buf : Vec F S512x5120 .fp8e4m3) (y : S512x5120.Idx) (h6 : (y 0).val < 256) :
    ∀ (n : ℕ) (h : n ≤ 8), outRows x g buf n h y = buf y
  | 0, _ => rfl
  | n + 1, h => by
    unfold outRows
    rw [outAfter_out x g ⟨n, by omega⟩ _ y (Or.inl h6)]
    exact outRows_out buf y h6 n (by omega)

/-- Whatever the output block of codes held, the copy and the odd tile's quantisation leave both tiles' codes there. -/
theorem outRows_eq (ca : Vec F S256x5120 .fp8e4m3) (buf : Vec F S512x5120 .fp8e4m3) :
    outRows x g (copyLow ca buf) 8 le_rfl = twoCodes ca (codesOf x g) := funext fun y => by
  by_cases h6 : (y 0).val < 256
  · rw [outRows_out x g _ y h6]
    unfold copyLow twoCodes
    rw [dif_pos h6, overlay_in (s := S512x5120) (size := S256x5120.size) _ _ y (ix2 (⟨(y 0).val, h6⟩ : Fin 256) (y 1)) (fun a => by
      fin_cases a
      · show (y 0).val = 0 + (y 0).val; omega
      · show (y 1).val = 0 + (y 1).val; omega)]
    congr 1
    funext a; apply Fin.ext
    fin_cases a
    · show 0 + 1 * (y 0).val = (y 0).val; omega
    · show 0 + 1 * (y 1).val = (y 1).val; omega
  · exact outRows_in x g ca _ y (by omega) 8 le_rfl (by have : (y 0).val < 512 := (y 0).isLt; omega)

end Quantise

/-! ## The scales' output block -/

/-- Two tiles' scales, one after the other along the lanes. -/
def twoScales (sa sb : Vec F S256x128 .f32) : Vec F S1x1x512 .f32 := fun y =>
  if h : (y 2).val < 256 then sa (ix2 ⟨(y 2).val, h⟩ 0) else sb (ix2 ⟨(y 2).val - 256, by have : (y 2).val < 512 := (y 2).isLt; omega⟩ 0)

theorem scaleLane_apply (sc : Vec F S256x128 .f32) (b : Fin 2) (z : Fin 128) :
    scaleLane sc b (ix3 0 0 z) = sc (ix2 ⟨128 * b.val + z.val, by omega⟩ 0) := by
  unfold scaleLane
  pointwise

theorem sPut_in (n : Fin 4) (buf : Vec F S1x1x512 .f32) (u : FVec F S1x1x128 .f32) (y : S1x1x512.Idx) (h : (y 2).val / 128 = n.val) :
    (sRect n).overlay buf u y = u (ix3 0 0 ⟨(y 2).val % 128, by omega⟩) :=
  overlay_in (s := S1x1x512) (size := S1x1x128.size) _ _ y (ix3 (0 : Fin 1) (0 : Fin 1) (⟨(y 2).val % 128, by omega⟩ : Fin 128)) (fun a => by
    fin_cases a
    · show (y 0).val = 0 + 0; have : (y 0).val < 1 := (y 0).isLt; omega
    · show (y 1).val = 0 + 0; have : (y 1).val < 1 := (y 1).isLt; omega
    · show (y 2).val = 128 * n.val + (y 2).val % 128; omega)

theorem sPut_out (n : Fin 4) (buf : Vec F S1x1x512 .f32) (u : FVec F S1x1x128 .f32) (y : S1x1x512.Idx) (h : (y 2).val / 128 ≠ n.val) :
    (sRect n).overlay buf u y = buf y :=
  overlay_out _ _ y 2 (by show ¬ (128 * n.val ≤ (y 2).val ∧ (y 2).val < 128 * n.val + 128); omega)

theorem sOf_eq (sa sb : Vec F S256x128 .f32) (buf : Vec F S1x1x512 .f32) : sOf sa sb buf = twoScales sa sb := funext fun y => by
  have hy : (y 2).val < 512 := (y 2).isLt
  unfold sOf twoScales
  by_cases h3 : (y 2).val / 128 = 3
  · rw [sPut_in 3 _ _ y h3, scaleLane_apply, dif_neg (by omega)]
    congr 1; congr 1; apply Fin.ext; show 128 * 1 + (y 2).val % 128 = (y 2).val - 256; omega
  rw [sPut_out 3 _ _ y h3]
  by_cases h1 : (y 2).val / 128 = 1
  · rw [sPut_in 1 _ _ y h1, scaleLane_apply, dif_pos (by omega)]
    congr 1; congr 1; apply Fin.ext; show 128 * 1 + (y 2).val % 128 = (y 2).val; omega
  rw [sPut_out 1 _ _ y h1]
  by_cases h2 : (y 2).val / 128 = 2
  · rw [sPut_in 2 _ _ y h2, scaleLane_apply, dif_neg (by omega)]
    congr 1; congr 1; apply Fin.ext; show 128 * 0 + (y 2).val % 128 = (y 2).val - 256; omega
  rw [sPut_out 2 _ _ y h2, sPut_in 0 _ _ y (by show (y 2).val / 128 = 0; omega), scaleLane_apply, dif_pos (by omega)]
  congr 1; congr 1; apply Fin.ext; show 128 * 0 + (y 2).val % 128 = (y 2).val; omega

/-! ## The projected tiles -/

section Project

variable (codes : Vec F S256x5120 .fp8e4m3) (sc : Vec F S256x128 .f32) (w : Vec F S5120x3584 .fp8e4m3) (ws : Vec F S1x3584 .f32)
  (hw : Vec F S2x128 .f32)

theorem qAfter_in (b : Fin 2) (buf : Vec F S1x20x512x128 .bf16) (y : S1x20x512x128.Idx) (hb : (y 2).val / 256 = b.val) :
    ∀ (n : ℕ) (h : n ≤ 20), (y 1).val < n → qAfter codes sc w ws hw b buf n h y = qHead codes sc w ws hw (y 1) (ix2 ⟨(y 2).val % 256, by omega⟩ (y 3))
  | 0, _, hn => by omega
  | n + 1, h, hn => by
    unfold qAfter
    by_cases e : (y 1).val = n
    · rw [overlay_in (s := S1x20x512x128) (size := S1x1x256x128.size) _ _ y (ix4 (0 : Fin 1) (0 : Fin 1) (⟨(y 2).val % 256, by omega⟩ : Fin 256) (y 3)) (fun a => by
        fin_cases a
        · show (y 0).val = 0 + 0; have : (y 0).val < 1 := (y 0).isLt; omega
        · show (y 1).val = n + 0; omega
        · show (y 2).val = 256 * b.val + (y 2).val % 256; omega
        · show (y 3).val = 0 + (y 3).val; omega)]
      rw [show (⟨n, by omega⟩ : Fin 20) = y 1 from Fin.ext e.symm]
      generalize qHead codes sc w ws hw (y 1) = u
      pointwise
    · rw [overlay_out _ _ y 1 (by show ¬ (n ≤ (y 1).val ∧ (y 1).val < n + 1); omega)]
      exact qAfter_in b buf y hb n (by omega) (by omega)

theorem qAfter_out (b : Fin 2) (buf : Vec F S1x20x512x128 .bf16) (y : S1x20x512x128.Idx) (hb : (y 2).val / 256 ≠ b.val) :
    ∀ (n : ℕ) (h : n ≤ 20), qAfter codes sc w ws hw b buf n h y = buf y
  | 0, _ => rfl
  | n + 1, h => by
    unfold qAfter
    rw [overlay_out _ _ y 2 (by show ¬ (256 * b.val ≤ (y 2).val ∧ (y 2).val < 256 * b.val + 256); omega)]
    exact qAfter_out b buf y hb n (by omega)

theorem putHead_in (b : Fin 2) (n : Fin 4) (u : FVec F S256x128 .bf16) (buf : Vec F S512x4x128 .bf16) (y : S512x4x128.Idx) (hb : (y 0).val / 256 = b.val)
    (hn : (y 1).val = n.val) : putHead b n u buf y = u (ix2 ⟨(y 0).val % 256, by omega⟩ (y 2)) := by
  unfold putHead
  rw [overlay_in (s := S512x4x128) (size := S256x2x128.size) _ _ y (ix3 (⟨(y 0).val % 256, by omega⟩ : Fin 256) (⟨n.val % 2, by omega⟩ : Fin 2) (y 2)) (fun a => by
    fin_cases a
    · show (y 0).val = 256 * b.val + (y 0).val % 256; omega
    · show (y 1).val = 2 * (n.val / 2) + n.val % 2; omega
    · show (y 2).val = 0 + (y 2).val; omega)]
  unfold updateSlice
  rw [dif_pos (by
    intro a; fin_cases a
    · show 0 ≤ (y 0).val % 256 ∧ (y 0).val % 256 < 0 + 256; omega
    · show n.val % 2 ≤ n.val % 2 ∧ n.val % 2 < n.val % 2 + 1; omega
    · show 0 ≤ (y 2).val ∧ (y 2).val < 0 + 128; have : (y 2).val < 128 := (y 2).isLt; omega)]
  have e : ∀ j : S256x1x128.Idx, (j 0).val = (y 0).val % 256 → (j 2).val = (y 2).val →
      shapeCast S256x1x128 u shapeCasts_S256x128_S256x1x128 j = u (ix2 ⟨(y 0).val % 256, by omega⟩ (y 2)) := by
    intro j h0 h2
    rw [show j = ix3 (⟨(y 0).val % 256, by omega⟩ : Fin 256) (0 : Fin 1) (y 2) by
      funext a; apply Fin.ext
      fin_cases a
      · exact h0
      · show (j 1).val = 0; have : (j 1).val < 1 := (j 1).isLt; omega
      · exact h2]
    pointwise
  refine e _ ?_ ?_
  · show (y 0).val % 256 - 0 = _; omega
  · show (y 2).val - 0 = _; omega

theorem putHead_out (b : Fin 2) (n : Fin 4) (u : FVec F S256x128 .bf16) (buf : Vec F S512x4x128 .bf16) (y : S512x4x128.Idx)
    (h : (y 0).val / 256 ≠ b.val ∨ (y 1).val ≠ n.val) : putHead b n u buf y = buf y := by
  unfold putHead
  by_cases hb : (y 0).val / 256 = b.val
  · by_cases hn : (y 1).val / 2 = n.val / 2
    · rw [overlay_in (s := S512x4x128) (size := S256x2x128.size) _ _ y (ix3 (⟨(y 0).val % 256, by omega⟩ : Fin 256) (⟨(y 1).val % 2, by omega⟩ : Fin 2) (y 2)) (fun a => by
        fin_cases a
        · show (y 0).val = 256 * b.val + (y 0).val % 256; omega
        · show (y 1).val = 2 * (n.val / 2) + (y 1).val % 2; omega
        · show (y 2).val = 0 + (y 2).val; omega)]
      unfold updateSlice
      rw [dif_neg (fun hm => by
        have := hm 1
        change n.val % 2 ≤ (y 1).val % 2 ∧ (y 1).val % 2 < n.val % 2 + 1 at this
        omega)]
      refine congrArg buf (funext fun a => Fin.ext ?_)
      fin_cases a
      · show 256 * b.val + 1 * ((y 0).val % 256) = (y 0).val; omega
      · show 2 * (n.val / 2) + 1 * ((y 1).val % 2) = (y 1).val; omega
      · show 0 + 1 * (y 2).val = (y 2).val; omega
    · exact overlay_out _ _ y 1 (by show ¬ (2 * (n.val / 2) ≤ (y 1).val ∧ (y 1).val < 2 * (n.val / 2) + 2); omega)
  · exact overlay_out _ _ y 0 (by show ¬ (256 * b.val ≤ (y 0).val ∧ (y 0).val < 256 * b.val + 256); omega)

theorem kAfter_in (b : Fin 2) (buf : Vec F S512x4x128 .bf16) (y : S512x4x128.Idx) (hb : (y 0).val / 256 = b.val) :
    ∀ (n : ℕ) (h : n ≤ 4), (y 1).val < n → kAfter codes sc w ws hw b buf n h y = kHead codes sc w ws hw (y 1) (ix2 ⟨(y 0).val % 256, by omega⟩ (y 2))
  | 0, _, hn => by omega
  | n + 1, h, hn => by
    unfold kAfter
    by_cases e : (y 1).val = n
    · rw [putHead_in b ⟨n, by omega⟩ _ _ y hb e, show (⟨n, by omega⟩ : Fin 4) = y 1 from Fin.ext e.symm]
    · rw [putHead_out b ⟨n, by omega⟩ _ _ y (Or.inr e)]
      exact kAfter_in b buf y hb n (by omega) (by omega)

theorem kAfter_out (b : Fin 2) (buf : Vec F S512x4x128 .bf16) (y : S512x4x128.Idx) (hb : (y 0).val / 256 ≠ b.val) :
    ∀ (n : ℕ) (h : n ≤ 4), kAfter codes sc w ws hw b buf n h y = buf y
  | 0, _ => rfl
  | n + 1, h => by
    unfold kAfter
    rw [putHead_out b ⟨n, by omega⟩ _ _ y (Or.inl hb)]
    exact kAfter_out b buf y hb n (by omega)

theorem vAfter_in (b : Fin 2) (buf : Vec F S512x4x128 .bf16) (y : S512x4x128.Idx) (hb : (y 0).val / 256 = b.val) :
    ∀ (n : ℕ) (h : n ≤ 4), (y 1).val < n → vAfter codes sc w ws b buf n h y = vHead codes sc w ws (y 1) (ix2 ⟨(y 0).val % 256, by omega⟩ (y 2))
  | 0, _, hn => by omega
  | n + 1, h, hn => by
    unfold vAfter
    by_cases e : (y 1).val = n
    · rw [putHead_in b ⟨n, by omega⟩ _ _ y hb e, show (⟨n, by omega⟩ : Fin 4) = y 1 from Fin.ext e.symm]
    · rw [putHead_out b ⟨n, by omega⟩ _ _ y (Or.inr e)]
      exact vAfter_in b buf y hb n (by omega) (by omega)

theorem vAfter_out (b : Fin 2) (buf : Vec F S512x4x128 .bf16) (y : S512x4x128.Idx) (hb : (y 0).val / 256 ≠ b.val) :
    ∀ (n : ℕ) (h : n ≤ 4), vAfter codes sc w ws b buf n h y = buf y
  | 0, _ => rfl
  | n + 1, h => by
    unfold vAfter
    rw [putHead_out b ⟨n, by omega⟩ _ _ y (Or.inl hb)]
    exact vAfter_out b buf y hb n (by omega)

end Project

section Two

variable (ca cb : Vec F S256x5120 .fp8e4m3) (sa sb : Vec F S256x128 .f32) (w : Vec F S5120x3584 .fp8e4m3) (ws : Vec F S1x3584 .f32)
  (hw : Vec F S2x128 .f32)

/-- The queries of two tiles. -/
def twoQ : Vec F S1x20x512x128 .bf16 := fun y =>
  if (y 2).val < 256 then qHead ca sa w ws hw (y 1) (ix2 ⟨(y 2).val % 256, by omega⟩ (y 3)) else qHead cb sb w ws hw (y 1) (ix2 ⟨(y 2).val % 256, by omega⟩ (y 3))

/-- The keys of two tiles. -/
def twoK : Vec F S512x4x128 .bf16 := fun y =>
  if (y 0).val < 256 then kHead ca sa w ws hw (y 1) (ix2 ⟨(y 0).val % 256, by omega⟩ (y 2)) else kHead cb sb w ws hw (y 1) (ix2 ⟨(y 0).val % 256, by omega⟩ (y 2))

/-- The values of two tiles. -/
def twoV : Vec F S512x4x128 .bf16 := fun y =>
  if (y 0).val < 256 then vHead ca sa w ws (y 1) (ix2 ⟨(y 0).val % 256, by omega⟩ (y 2)) else vHead cb sb w ws (y 1) (ix2 ⟨(y 0).val % 256, by omega⟩ (y 2))

theorem twoQ_eq (buf : Vec F S1x20x512x128 .bf16) :
    qAfter cb sb w ws hw 1 (qAfter ca sa w ws hw 0 buf 20 le_rfl) 20 le_rfl = twoQ ca cb sa sb w ws hw := funext fun y => by
  have hy : (y 2).val < 512 := (y 2).isLt
  unfold twoQ
  by_cases h : (y 2).val < 256
  · rw [if_pos h, qAfter_out _ _ _ _ _ 1 _ y (by show (y 2).val / 256 ≠ 1; omega), qAfter_in _ _ _ _ _ 0 _ y (by show (y 2).val / 256 = 0; omega) 20 le_rfl (y 1).isLt]
  · rw [if_neg h, qAfter_in _ _ _ _ _ 1 _ y (by show (y 2).val / 256 = 1; omega) 20 le_rfl (y 1).isLt]

theorem twoK_eq (buf : Vec F S512x4x128 .bf16) :
    kAfter cb sb w ws hw 1 (kAfter ca sa w ws hw 0 buf 4 le_rfl) 4 le_rfl = twoK ca cb sa sb w ws hw := funext fun y => by
  have hy : (y 0).val < 512 := (y 0).isLt
  unfold twoK
  by_cases h : (y 0).val < 256
  · rw [if_pos h, kAfter_out _ _ _ _ _ 1 _ y (by show (y 0).val / 256 ≠ 1; omega), kAfter_in _ _ _ _ _ 0 _ y (by show (y 0).val / 256 = 0; omega) 4 le_rfl (y 1).isLt]
  · rw [if_neg h, kAfter_in _ _ _ _ _ 1 _ y (by show (y 0).val / 256 = 1; omega) 4 le_rfl (y 1).isLt]

theorem twoV_eq (buf : Vec F S512x4x128 .bf16) :
    vAfter cb sb w ws 1 (vAfter ca sa w ws 0 buf 4 le_rfl) 4 le_rfl = twoV ca cb sa sb w ws := funext fun y => by
  have hy : (y 0).val < 512 := (y 0).isLt
  unfold twoV
  by_cases h : (y 0).val < 256
  · rw [if_pos h, vAfter_out _ _ _ _ 1 _ y (by show (y 0).val / 256 ≠ 1; omega), vAfter_in _ _ _ _ 0 _ y (by show (y 0).val / 256 = 0; omega) 4 le_rfl (y 1).isLt]
  · rw [if_neg h, vAfter_in _ _ _ _ 1 _ y (by show (y 0).val / 256 = 1; omega) 4 le_rfl (y 1).isLt]

end Two

end Cert.KernelIdeal.Hand

end
-- ==== Proof.Point.lean ====
/-
  Hand-written. A grid point as a whole: from the sixteen memrefs at any contents, the scratch at an even tile's codes and scales
  or the point the first, to the outputs at both tiles' results and the scratch at the next even tile's.
-/
module

public import proofs.«01_k».proof.Proof.First
public import proofs.«01_k».proof.Proof.QuantiseA
public import proofs.«01_k».proof.Proof.Blocks

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] [Facts] (cc : Dev nD) (R : Refs)

local notation "𝕄" => MT nD τ sig Unit (Elt F) ℕ (UR sig nD τ) ℕ

/-- The contents a point leaves, from those of its inputs and the even tile's codes and scales. -/
def leaves (x0 xb xa : Vec F S256x5120 .bf16) (g : Vec F S1x5120 .f32) (w : Vec F S5120x3584 .fp8e4m3) (ws : Vec F S1x3584 .f32) (hw : Vec F S2x128 .f32)
    (ca : Vec F S256x5120 .fp8e4m3) (sa : Vec F S256x128 .f32) : St F :=
  ⟨x0, xb, xa, g, w, ws, hw, twoQ ca (codesOf xb g) sa (scalesOf xb g) w ws hw, twoK ca (codesOf xb g) sa (scalesOf xb g) w ws hw,
    twoV ca (codesOf xb g) sa (scalesOf xb g) w ws, twoCodes ca (codesOf xb g), twoScales sa (scalesOf xb g),
    codesOf xa g, codesOf xb g, scalesOf xa g, scalesOf xb g⟩

variable (x0 xb xa : Vec F S256x5120 .bf16) (g : Vec F S1x5120 .f32) (w : Vec F S5120x3584 .fp8e4m3) (ws : Vec F S1x3584 .f32) (hw : Vec F S2x128 .f32)
  (q : Vec F S1x20x512x128 .bf16) (k v : Vec F S512x4x128 .bf16) (c : Vec F S512x5120 .fp8e4m3) (s : Vec F S1x1x512 .f32)
  (ca cb : Vec F S256x5120 .fp8e4m3) (sa sb : Vec F S256x128 .f32)

/-- From the copy to the end of a point. -/
theorem afterCopied (i : grid0.Coords) :
    Sim cc R (copied (F := F) cc R i).1 ⟨x0, xb, xa, g, w, ws, hw, q, k, v, copyLow ca c, s, ca, cb, sa, sb⟩ (.ret ⟨⟩)
      (leaves x0 xb xa g w ws hw ca sa) := by
  unfold leaves
  rw [← twoQ_eq ca (codesOf xb g) sa (scalesOf xb g) w ws hw q, ← twoK_eq ca (codesOf xb g) sa (scalesOf xb g) w ws hw k,
    ← twoV_eq ca (codesOf xb g) sa (scalesOf xb g) w ws v, ← outRows_eq xb g ca c, ← sOf_eq sa (scalesOf xb g) s,
    ← codesRows_eq xb g cb, ← scaleRows_eq xb g sb, ← codesRows_eq xa g ca, ← scaleRows_eq xa g sa]
  refine Sim.trans ((projectedA (F := F) cc R i).2 _ _ _ _ _ _ _ _ _ _ _ _ _ _ _ _) ?_
  refine Sim.trans ((quantisedB (F := F) cc R i).2 _ _ _ _ _ _ _ _ _ _ _ _ _ _ _ _) ?_
  refine Sim.trans ((scaled (F := F) cc R i).2 _ _ _ _ _ _ _ _ _ _ _ _ _ _ _ _) ?_
  refine Sim.trans ((projectedB (F := F) cc R i).2 _ _ _ _ _ _ _ _ _ _ _ _ _ _ _ _) ?_
  exact quantisedA (F := F) cc R _ _ _ _ _ _ _ _ _ _ _ _ _ _ _ _ i

/-- A point that is not the first. -/
theorem point_later (i : grid0.Coords) (hi : isFirst i = 0#1) :
    Sim cc R (R.body (F := F) i) ⟨x0, xb, xa, g, w, ws, hw, q, k, v, c, s, ca, cb, sa, sb⟩ (.ret ⟨⟩) (leaves x0 xb xa g w ws hw ca sa) :=
  Sim.trans ((copied (F := F) cc R i).2 hi _ _ _ _ _ _ _ _ _ _ _ _ _ _ _ _) (afterCopied (F := F) cc R x0 xb xa g w ws hw q k v c s ca cb sa sb i)

/-- The first point. -/
theorem point_first (i : grid0.Coords) (hi : isFirst i = 1#1) :
    Sim cc R (R.body (F := F) i) ⟨x0, xb, xa, g, w, ws, hw, q, k, v, c, s, ca, cb, sa, sb⟩ (.ret ⟨⟩)
      (leaves x0 xb xa g w ws hw (codesOf x0 g) (scalesOf x0 g)) := by
  rw [← codesRows_eq x0 g ca, ← scaleRows_eq x0 g sa]
  exact Sim.trans ((quantised0 cc R i).2 hi x0 xb xa g w ws hw q k v c s ca cb sa sb)
    (Sim.trans (first (F := F) cc R x0 xb xa g w ws hw q k v c s (codesRows x0 g ca 8 le_rfl) cb (scaleRows x0 g sa 8 le_rfl) sb i)
      (afterCopied (F := F) cc R x0 xb xa g w ws hw q k v c s (codesRows x0 g ca 8 le_rfl) cb (scaleRows x0 g sa 8 le_rfl) sb i))

/-- A run to the return, for any continuation. -/
theorem Sim.run {p : Prog (TpuEff nD τ sig (Elt F) Λ₀ .tc) PUnit} {σ σ' : St F} (h : Sim cc R p σ (.ret ⟨⟩) σ') (K : PUnit → sProp 𝕄) :
    iprop(Own cc R σ ∗ (Own cc R σ' -∗ K ⟨⟩)) ⊢ bodyWp cc p K := by
  have h' : Own cc R σ ⊢ bodyWp cc p (fun _ => Own cc R σ') := h _ (by
    unfold bodyWp
    rw [wp_ret]
    iintro H
    imodintro
    iexact H)
  iintro ⟨H, Hk⟩
  ihave H := h' $$ H
  iapply (wp_wand _ _ _) $$ H
  iintro %a H
  iapply Hk
  iexact H

end Cert.KernelIdeal.Hand

end
-- ==== Proof.Run.lean ====
/-
  Hand-written. The launch: the body obligation at every grid point, the scratch tracked from one point to the next, and the
  contents of the result blocks; the run of @main.
-/
module

public import proofs.«01_k».proof.Proof.Point
public import proofs.«01_k».proof.Proof.Gen.KernelIdeal.Frame
public import proofs.«01_k».proof.Proof.Gen.KernelIdeal.Points
public import Idealize.ShloMosaic.Lib.Pipeline.FrameSuffix

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F] [Facts]

local notation "𝕄" => MT nD τ sig Unit (Elt F) ℕ (UR sig nD τ) ℕ

variable (m : (ℓ : Loc nD τ sig) → Buf (Elt F) ℓ) (ρ : Dev nD → PrngReg) (c : Dev nD)

/-! ## The blocks of the inputs -/

abbrev in0 (t : Fin cfg0.N) : Vec F S256x5120 .bf16 := iblk m c 0 t
abbrev in1 (t : Fin cfg0.N) : Vec F S256x5120 .bf16 := iblk m c 1 t
abbrev in2 (t : Fin cfg0.N) : Vec F S256x5120 .bf16 := iblk m c 2 t
abbrev in3 (t : Fin cfg0.N) : Vec F S1x5120 .f32 := iblk m c 3 t
abbrev in4 (t : Fin cfg0.N) : Vec F S5120x3584 .fp8e4m3 := iblk m c 4 t
abbrev in5 (t : Fin cfg0.N) : Vec F S1x3584 .f32 := iblk m c 5 t
abbrev in6 (t : Fin cfg0.N) : Vec F S2x128 .f32 := iblk m c 6 t

/-- The point before. -/
abbrev prior (t : Fin cfg0.N) : Fin cfg0.N := ⟨t.val - 1, by omega⟩

/-- The even tile of a point: read at the first point, and by the point before at the others. -/
def evenX (t : Fin cfg0.N) : Vec F S256x5120 .bf16 := if t.val = 0 then in0 m c t else in2 m c (prior t)

/-- The norm's weight beside it. -/
def evenG (t : Fin cfg0.N) : Vec F S1x5120 .f32 := if t.val = 0 then in3 m c t else in3 m c (prior t)

/-- What point `t` leaves in the memrefs. -/
def left (t : Fin cfg0.N) : St F :=
  leaves (in0 m c t) (in1 m c t) (in2 m c t) (in3 m c t) (in4 m c t) (in5 m c t) (in6 m c t)
    (codesOf (evenX m c t) (evenG m c t)) (scalesOf (evenX m c t) (evenG m c t))

/-! ## The invariant and the proof data -/

/-- What is known of the scratch before point `n`: the even tile's codes and scales, but at the first point. -/
def Tracked (n : ℕ) (ca : Vec F S256x5120 .fp8e4m3) (sa : Vec F S256x128 .f32) : Prop :=
  ∀ t : Fin cfg0.N, t.val + 1 = n → ca = codesOf (in2 m c t) (in3 m c t) ∧ sa = scalesOf (in2 m c t) (in3 m c t)

/-- The invariant before point `n`. -/
def PhiS (n : ℕ) : sProp 𝕄 :=
  iprop((∃ ca cb sa sb, ⌜Tracked m c n ca sa⌝ ∗ owns (c : Thread nD τ) (Memref.whole cc0_scratch0) fullShare ca
      ∗ owns (c : Thread nD τ) (Memref.whole cc0_scratch1) fullShare cb ∗ owns (c : Thread nD τ) (Memref.whole cc0_scratch2) fullShare sa
      ∗ owns (c : Thread nD τ) (Memref.whole cc0_scratch3) fullShare sb) ∗ ∃ r, prngReg c r)

/-- What the body leaves in each window's block. -/
def afterOf (t : Fin cfg0.N) : (w : Fin cfg0.W) → (cfg0.win w).block.Idx → Elt F (cfg0.win w).elt
  | 0 => in0 m c t
  | 1 => in1 m c t
  | 2 => in2 m c t
  | 3 => in3 m c t
  | 4 => in4 m c t
  | 5 => in5 m c t
  | 6 => in6 m c t
  | 7 => (left m c t).q
  | 8 => (left m c t).k
  | 9 => (left m c t).v
  | 10 => (left m c t).c
  | 11 => (left m c t).s

/-- The proof data of core `c`. -/
def dats (_ : Fin 1) (c : Dev nD) : Dat τ (Elt F) Unit ℕ (UR sig nD τ) ℕ cfg0 c where
  A w := V m c (Pipeline.arrRef spec0 w)
  after w t := afterOf m c t w
  Φ t := PhiS m c t.val
  q w := Pipeline.shareOf spec0 w
  owed _ := 0

theorem A_eq (w : Fin cfg0.W) : (dats m 0 c).A w = V m c (Pipeline.arrRef spec0 w) := rfl

/-- The memrefs a point is called with. -/
def refsAt (t : Fin cfg0.N) : Refs where
  arg1 := st0_0 t
  harg1 := hstage0_0 ((cfg0.slots t 0).cast nbuf0_0)
  arg2 := st0_1 t
  harg2 := hstage0_1 ((cfg0.slots t 1).cast nbuf0_1)
  arg3 := st0_2 t
  harg3 := hstage0_2 ((cfg0.slots t 2).cast nbuf0_2)
  arg4 := st0_3 t
  harg4 := hstage0_3 ((cfg0.slots t 3).cast nbuf0_3)
  arg5 := st0_4 t
  harg5 := hstage0_4 ((cfg0.slots t 4).cast nbuf0_4)
  arg6 := st0_5 t
  harg6 := hstage0_5 ((cfg0.slots t 5).cast nbuf0_5)
  arg7 := st0_6 t
  harg7 := hstage0_6 ((cfg0.slots t 6).cast nbuf0_6)
  arg8 := st0_7 t
  harg8 := hstage0_7 ((cfg0.slots t 7).cast nbuf0_7)
  arg9 := st0_8 t
  harg9 := hstage0_8 ((cfg0.slots t 8).cast nbuf0_8)
  arg10 := st0_9 t
  harg10 := hstage0_9 ((cfg0.slots t 9).cast nbuf0_9)
  arg11 := st0_10 t
  harg11 := hstage0_10 ((cfg0.slots t 10).cast nbuf0_10)
  arg12 := st0_11 t
  harg12 := hstage0_11 ((cfg0.slots t 11).cast nbuf0_11)
  arg13 := Memref.whole cc0_scratch0
  harg13 := Memref.isWhole_whole _
  arg14 := Memref.whole cc0_scratch1
  harg14 := Memref.isWhole_whole _
  arg15 := Memref.whole cc0_scratch2
  harg15 := Memref.isWhole_whole _
  arg16 := Memref.whole cc0_scratch3
  harg16 := Memref.isWhole_whole _

/-! ## The body obligation -/

/-- What the body is called with at point `t`, and what it returns. -/
def bodyPre (t : Fin cfg0.N) : sProp 𝕄 :=
  iprop(PhiS m c t.val ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d))
    ∗ (∃ d, owns (c : Thread nD τ) (st0_8 t) fullShare ((dats m 0 c).before 8 t d)) ∗ (∃ d, owns (c : Thread nD τ) (st0_9 t) fullShare ((dats m 0 c).before 9 t d))
    ∗ (∃ d, owns (c : Thread nD τ) (st0_10 t) fullShare ((dats m 0 c).before 10 t d)) ∗ (∃ d, owns (c : Thread nD τ) (st0_11 t) fullShare ((dats m 0 c).before 11 t d)))
def bodyPost (t : Fin cfg0.N) : sProp 𝕄 :=
  iprop(PhiS m c (t.val + 1) ∗ (dats m 0 c).owesAt () t.succ
    ∗ owns (c : Thread nD τ) (st0_0 t) fullShare (in0 m c t) ∗ owns (c : Thread nD τ) (st0_1 t) fullShare (in1 m c t)
    ∗ owns (c : Thread nD τ) (st0_2 t) fullShare (in2 m c t) ∗ owns (c : Thread nD τ) (st0_3 t) fullShare (in3 m c t)
    ∗ owns (c : Thread nD τ) (st0_4 t) fullShare (in4 m c t) ∗ owns (c : Thread nD τ) (st0_5 t) fullShare (in5 m c t)
    ∗ owns (c : Thread nD τ) (st0_6 t) fullShare (in6 m c t) ∗ owns (c : Thread nD τ) (st0_7 t) fullShare (left m c t).q
    ∗ owns (c : Thread nD τ) (st0_8 t) fullShare (left m c t).k ∗ owns (c : Thread nD τ) (st0_9 t) fullShare (left m c t).v
    ∗ owns (c : Thread nD τ) (st0_10 t) fullShare (left m c t).c ∗ owns (c : Thread nD τ) (st0_11 t) fullShare (left m c t).s)

theorem isFirst_eq : ∀ t : Fin cfg0.N, isFirst (grid0.coords t) = if t.val = 0 then 1#1 else 0#1 :=
  (by decide +kernel : ∀ t : Fin grid0.N, isFirst (grid0.coords t) = if t.val = 0 then 1#1 else 0#1)

/-- The body at a point, from tracked scratch. -/
theorem point_sim (t : Fin cfg0.N) (q : Vec F S1x20x512x128 .bf16) (k v : Vec F S512x4x128 .bf16) (cd : Vec F S512x5120 .fp8e4m3) (s : Vec F S1x1x512 .f32)
    (ca cb : Vec F S256x5120 .fp8e4m3) (sa sb : Vec F S256x128 .f32) (h : Tracked m c t.val ca sa) :
    Sim c (refsAt t) ((refsAt t).body (F := F) (grid0.coords t)) ⟨in0 m c t, in1 m c t, in2 m c t, in3 m c t, in4 m c t, in5 m c t, in6 m c t, q, k, v, cd, s, ca, cb, sa, sb⟩
      (.ret ⟨⟩) (left m c t) := by
  unfold left evenX evenG
  by_cases h0 : t.val = 0
  · simp only [if_pos h0]
    exact point_first c (refsAt t) _ _ _ _ _ _ _ _ _ _ _ _ _ _ _ _ _ ((isFirst_eq t).trans (if_pos h0))
  · simp only [if_neg h0]
    obtain ⟨rfl, rfl⟩ := h (prior t) (by show t.val - 1 + 1 = t.val; omega)
    exact point_later c (refsAt t) _ _ _ _ _ _ _ _ _ _ _ _ _ _ _ _ _ ((isFirst_eq t).trans (if_neg h0))

theorem sound_body (t : Fin cfg0.N) :
    bodyPre m c t ⊢ wp frame (wpE (defs₀ (F := F)) Variants.none c none) Set.univ (bodyAt0 t) (fun _ => bodyPost m c t) := by
  unfold bodyPre bodyPost PhiS
  iintro ⟨⟨⟨%ca, %cb, %sa, %sb, %hT, Hca, Hcb, Hsa, Hsb⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before0_0_of m (dats m 0 c) (A_eq m c 0) (fun _ => rfl) t d0, before0_1_of m (dats m 0 c) (A_eq m c 1) (fun _ => rfl) t d1,
    before0_2_of m (dats m 0 c) (A_eq m c 2) (fun _ => rfl) t d2, before0_3_of m (dats m 0 c) (A_eq m c 3) (fun _ => rfl) t d3,
    before0_4_of m (dats m 0 c) (A_eq m c 4) (fun _ => rfl) t d4, before0_5_of m (dats m 0 c) (A_eq m c 5) (fun _ => rfl) t d5,
    before0_6_of m (dats m 0 c) (A_eq m c 6) (fun _ => rfl) t d6]
  iapply (Sim.run c (refsAt t) (point_sim m c t _ _ _ _ _ ca cb sa sb hT) _)
  isplitl [H0 H1 H2 H3 H4 H5 H6 H7 H8 H9 H10 H11 Hca Hcb Hsa Hsb]
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hca]; · iexact Hca
    isplitl [Hcb]; · iexact Hcb
    isplitl [Hsa]; · iexact Hsa
    iexact Hsb
  unfold left leaves Own
  iintro ⟨H0, H1, H2, H3, H4, H5, H6, H7, H8, H9, H10, H11, Hca, Hcb, Hsa, Hsb⟩
  isplitl [Hca Hcb Hsa Hsb Hg]
  · isplitr [Hg]
    · iexists _, _, _, _
      isplitr
      · ipureintro
        intro t' ht'
        obtain rfl : t' = t := Fin.ext (by omega)
        exact ⟨rfl, rfl⟩
      isplitl [Hca]; · iexact Hca
      isplitl [Hcb]; · iexact Hcb
      isplitl [Hsa]; · iexact Hsa
      iexact Hsb
    · iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem phi_in : Pipeline.ΦA (U := UR sig nD τ) (Val := Elt F) spec0 c ⊢ (dats m 0 c).Φ 0 := by
  show _ ⊢ PhiS m c 0
  unfold Pipeline.ΦA PhiS
  rw [scopedRest0_eq]
  simp only [owns_whole]
  iintro ⟨⟨⟨%f0, H0⟩, ⟨%f1, H1⟩, ⟨%f2, H2⟩, ⟨%f3, H3⟩⟩, Hg⟩
  isplitr [Hg]
  · iexists f0, f1, f2, f3
    isplitr; · ipureintro; intro t ht; omega
    isplitl [H0]; · iexact H0
    isplitl [H1]; · iexact H1
    isplitl [H2]; · iexact H2
    iexact H3
  · iexact Hg

theorem phi_out : (dats m 0 c).Φ (Fin.last cfg0.N) ⊢ Pipeline.ΦA (U := UR sig nD τ) (Val := Elt F) spec0 c := by
  show PhiS m c _ ⊢ _
  unfold Pipeline.ΦA PhiS
  rw [scopedRest0_eq]
  simp only [owns_whole]
  iintro ⟨⟨%f0, %f1, %f2, %f3, -, H0, H1, H2, H3⟩, Hg⟩
  isplitr [Hg]
  · isplitl [H0]; · iexists _; iexact H0
    isplitl [H1]; · iexists _; iexact H1
    isplitl [H2]; · iexists _; iexact H2
    iexists _; iexact H3
  · iexact Hg

set_option backward.isDefEq.respectTransparency.types false in
/-- The run of @main: it terminates, and every final state has the result blocks the body leaves, through the host's re-indexings. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m)
    (hin := phi_in m) (hout := phi_out m) (hQ' := fun _ h => h)

end Cert.KernelIdeal.Hand

end
-- ==== Proof.Frames.lean ====
/-
  Hand-written. The frame of @main at any float instance: the run of `Run.lean`, read at the argument arrays.
-/
module

public import proofs.«01_k».proof.Proof.Run

@[expose] public section

noncomputable section

namespace Cert.KernelIdeal.Hand

open Cert.KernelIdeal Cert.KernelIdeal.Gen
open Idealize.ShloMosaic Idealize.ShloMosaic.TcCoe
open Idealize.SL.Sem

variable {F : FTy → Type} [FloatOps F] [Named F]

/-- @main runs, its argument arrays end unchanged and every semaphore counter ends at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_arg0 (Pipeline.mem_restRefs_of main_arg0 (by decide) (by decide))).trans (W_main_arg0 m (dats m) c),
     ((h.1 c).2 main_arg1 (Pipeline.mem_restRefs_of main_arg1 (by decide) (by decide))).trans (W_main_arg1 m (dats m) c),
     ((h.1 c).1 4).trans (((dats m 0 c).arrAt_in 4 rfl _).trans ((A_eq m c 4).trans (V_main_arg2 m c))),
     ((h.1 c).2 main_arg3 (Pipeline.mem_restRefs_of main_arg3 (by decide) (by decide))).trans (W_main_arg3 m (dats m) c),
     ((h.1 c).2 main_arg4 (Pipeline.mem_restRefs_of main_arg4 (by decide) (by decide))).trans (W_main_arg4 m (dats m) c),
     ((h.1 c).2 main_arg5 (Pipeline.mem_restRefs_of main_arg5 (by decide) (by decide))).trans (W_main_arg5 m (dats m) c)⟩,
    h.2⟩) (run_main m g)

end Cert.KernelIdeal.Hand

end
-- ==== Proof.Transport.lean ====
/-
  Hand-written. The frame of the kernel as printed, at the bit-exact instance. The ideal program is the same program but for the
  named constant; with the name read as its printed bits the two programs are one term, which the kernel checks.
-/
module

public import proofs.«01_k».proof.Defs
public import proofs.«01_k».proof.Proof.Gen.Kernel
public import proofs.«01_k».proof.Proof.Gen.KernelIdeal
public import proofs.«01_k».proof.Proof.Frames
public import Idealize.ShloMosaic.Lib.Pipeline.Regions

@[expose] public section

noncomputable section

namespace Cert.Transport

open Idealize.ShloMosaic Idealize.ShloMosaic.TcCoe
open Idealize.SL.Sem

/-- At the bit-exact instance a named constant is its printed bits. -/
local instance namedBits : Named Bits where
  named _ _ {φ} b := Scalar.ofBits φ b

/-- The ideal program's frame at the bit-exact instance. -/
def frameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

/-- The two programs are one term at the bit-exact instance. -/
theorem same : frameAtBits = Cert.quiescent_Kernel (hKernel := Cert.Kernel.Gen.facts) := by
  chain_rfl

theorem quiescent : Cert.quiescent_Kernel (hKernel := Cert.Kernel.Gen.facts) :=
  same.mp fun m g _ => Cert.KernelIdeal.Hand.frame m g

end Cert.Transport

end
-- ==== Proof.Rows.lean ====
/-
  Hand-written. The quantiser of one row, over the extended reals: what the reference computes, and that the kernel's
  way of computing it — the weighted maximum before the norm, the exponent by counting — is the same.
-/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-! ## Powers of two -/

/-- The power of two with exponent field `j`. -/
def pw (j : ℕ) : EReal := (((2 : ℝ) ^ ((j : ℤ) - 127) : ℝ) : EReal)

theorem pw_lt {i j : ℕ} : pw i < pw j ↔ i < j := by
  unfold pw
  rw [EReal.coe_lt_coe_iff, zpow_lt_zpow_iff_right₀ (by norm_num : (1 : ℝ) < 2)]
  omega

theorem pw_le {i j : ℕ} : pw i ≤ pw j ↔ i ≤ j := by
  rw [← not_lt, pw_lt, not_lt]

theorem pw_pos (j : ℕ) : 0 < pw j := by
  unfold pw
  exact_mod_cast (by positivity : (0 : ℝ) < 2 ^ ((j : ℤ) - 127))

theorem pw_lt_top (j : ℕ) : pw j < ⊤ := EReal.coe_lt_top _

theorem pw_127 : pw 127 = 1 := by
  simp [pw]

theorem pw_inv {j : ℕ} (h : j ≤ 254) : (pw j)⁻¹ = pw (254 - j) := by
  unfold pw
  rw [← EReal.coe_inv, ← zpow_neg]
  congr 2
  push_cast [h]
  ring

theorem fields : ∀ j : Fin 256, (BitVec.ofNat 32 j.val <<< 23).extractLsb' 31 1 = 0#1 ∧
    ((BitVec.ofNat 32 j.val <<< 23).extractLsb' 23 8).toNat = j.val ∧ ((BitVec.ofNat 32 j.val <<< 23).extractLsb' 0 23).toNat = 0 := by
  decide +kernel

/-- A positive normal pattern, from its fields. -/
theorem ieee_normal {e m w : ℕ} (b : BitVec w) (ex fr : ℕ) (hs : b.extractLsb' (e + m) 1 = 0#1) (he : (b.extractLsb' m e).toNat = ex)
    (hf : (b.extractLsb' 0 m).toNat = fr) (h0 : ex ≠ 0) (h1 : ex ≠ 2 ^ e - 1) :
    Ideal.ieee e m b = ((((2 ^ m + fr : ℕ) : ℝ) * 2 ^ ((ex : ℤ) - (2 ^ (e - 1) - 1) - m) : ℝ) : EReal) := by
  unfold Ideal.ieee
  simp only [hs, he, hf]
  rw [if_neg h1, if_neg h0]
  simp

theorem ofBits_pw {j : ℕ} (h1 : 1 ≤ j) (h2 : j ≤ 254) : Ideal.ofBits .f32 (BitVec.ofNat 32 j <<< 23) = pw j := by
  have f : ∀ w : BitVec 32, w.extractLsb' 31 1 = 0#1 ∧ (w.extractLsb' 23 8).toNat = j ∧ (w.extractLsb' 0 23).toNat = 0 →
      Ideal.ofBits .f32 w = ((((2 ^ 23 + 0 : ℕ) : ℝ) * 2 ^ ((j : ℤ) - (2 ^ (8 - 1) - 1) - (23 : ℕ)) : ℝ) : EReal) :=
    fun w h => ieee_normal (e := 8) (m := 23) w j 0 h.1 h.2.1 h.2.2 (by omega) (by omega)
  rw [f _ (fields ⟨j, by omega⟩)]
  have e : (((2 ^ 23 + 0 : ℕ) : ℝ)) = 2 ^ (23 : ℤ) := by norm_num
  rw [e, ← zpow_add₀ (by norm_num), pw]
  congr 2
  push_cast
  ring

/-- The exponents of the normal powers, as integers. -/
theorem exponents : ∀ k : Fin 254, (BitVec.ofNat 32 k.val - 126#32).toInt = (k.val : ℤ) - 126 := by
  decide +kernel

theorem exp2_pw (k : Fin 254) : Ideal.exp2 (((BitVec.ofNat 32 k.val - 126#32).toInt : ℝ) : EReal) = pw (k.val + 1) := by
  rw [exponents, Ideal.exp2_coe, pw]
  congr 1
  refine (Real.rpow_intCast 2 ((k.val : ℤ) - 126)).trans ?_
  congr 1
  push_cast
  ring

theorem ofBits_low : Ideal.ofBits .f32 (BitVec.ofNat 32 0 <<< 23) = 0 := by
  simp [Ideal.ofBits, Ideal.ieee]

theorem ofBits_high : Ideal.ofBits .f32 (BitVec.ofNat 32 255 <<< 23) = ⊤ := by
  obtain ⟨a, b, c⟩ := fields 255
  show Ideal.ieee 8 23 (BitVec.ofNat 32 255 <<< 23) = ⊤
  have b' : ((BitVec.ofNat 32 255 <<< 23).extractLsb' 23 8).toNat = 255 := b
  have c' : ((BitVec.ofNat 32 255 <<< 23).extractLsb' 0 23).toNat = 0 := c
  have a' : (BitVec.ofNat 32 255 <<< 23).extractLsb' (8 + 23) 1 = 0#1 := a
  unfold Ideal.ieee
  simp only [a', b', c']
  simp

/-- Where a number lies among the powers of two. -/
theorem exists_level {t : EReal} (ht : t < pw 253) : ∃ N, N ≤ 252 ∧ ∀ j, 1 ≤ j → (t < pw j ↔ N < j) := by
  classical
  have hex : ∃ j, t < pw (j + 1) := ⟨252, ht⟩
  refine ⟨Nat.find hex, Nat.find_le ht, fun j hj => ⟨fun h => ?_, fun h => ?_⟩⟩
  · by_contra hn
    have hlt : j - 1 < Nat.find hex := by omega
    refine Nat.find_min hex hlt ?_
    rwa [Nat.sub_add_cancel hj]
  · exact (Nat.find_spec hex).trans_le (pw_le.2 (by omega))

/-- The count of the floors at most a number. -/
theorem count_level {t : EReal} (h0 : 0 ≤ t) {N : ℕ} (hN : N ≤ 252) (h : ∀ j, 1 ≤ j → (t < pw j ↔ N < j)) (j : Fin 256) :
    t < Ideal.ofBits .f32 (BitVec.ofNat 32 j.val <<< 23) ↔ N < j.val := by
  obtain ⟨j, hj⟩ := j
  by_cases e0 : j = 0
  · subst e0
    simp only [ofBits_low]
    exact ⟨fun hlt => absurd h0 (not_le.2 hlt), fun hlt => absurd hlt (by omega)⟩
  by_cases e1 : j = 255
  · subst e1
    simp only [ofBits_high]
    exact ⟨fun _ => by omega, fun _ => ((h 253 (by omega)).2 (by omega)).trans (pw_lt_top _)⟩
  · simp only [ofBits_pw (by omega : 1 ≤ j) (by omega)]
    exact h j (by omega)

/-- The smallest power of two above a number. -/
theorem min_level {t : EReal} {N : ℕ} (hN : N ≤ 252) (h : ∀ j, 1 ≤ j → (t < pw j ↔ N < j)) :
    Finset.univ.fold min (⊤ : EReal) (fun k : Fin 254 => if t < pw (k.val + 1) then pw (k.val + 1) else ⊤) = pw (N + 1) := by
  refine le_antisymm ?_ ?_
  · refine Finset.fold_min_le _ |>.2 (.inr ⟨⟨N, by omega⟩, Finset.mem_univ _, ?_⟩)
    rw [if_pos ((h _ (by omega)).2 (by simp))]
  · refine Finset.le_fold_min _ |>.2 ⟨le_top, fun k _ => ?_⟩
    split
    · rename_i hk
      have := (h _ (by omega)).1 hk
      exact pw_le.2 (by omega)
    · exact le_top

/-! ## The row -/

/-- The norm's constant. -/
def eps : EReal := Ideal.ofBits .f32 0x358637BD#32

/-- A 448th. -/
def part448 : EReal := Ideal.ofBits .f32 0x3B124925#32

theorem eps_eq : eps = (((8796093 : ℝ) * 2 ^ (-43 : ℤ) : ℝ) : EReal) := by
  refine (ieee_normal (e := 8) (m := 23) 0x358637BD#32 107 407485 (by decide) (by decide) (by decide) (by decide) (by decide)).trans ?_
  norm_num

theorem part448_eq : part448 = (((9586981 : ℝ) * 2 ^ (-32 : ℤ) : ℝ) : EReal) := by
  refine (ieee_normal (e := 8) (m := 23) 0x3B124925#32 118 1198373 (by decide) (by decide) (by decide) (by decide) (by decide)).trans ?_
  norm_num

/-- The greatest finite bf16. -/
def big : EReal := Ideal.ofBits .bf16 0x7F7F#16

theorem big_eq : big = (((255 : ℝ) * 2 ^ (120 : ℤ) : ℝ) : EReal) := by
  refine (ieee_normal (e := 8) (m := 7) 0x7F7F#16 254 127 (by decide) (by decide) (by decide) (by decide) (by decide)).trans ?_
  norm_num

/-- Magnitude. -/
abbrev mag (x : EReal) : EReal := max x (-x)

theorem mag_nonneg (x : EReal) : 0 ≤ mag x := by
  rcases le_total 0 x with h | h
  · exact le_max_of_le_left h
  · exact le_max_of_le_right (by simpa using EReal.neg_le_neg_iff.2 h)

theorem mag_mul {x c : EReal} (hc : 0 ≤ c) : mag x * c = mag (x * c) := by
  have hm : Monotone fun y : EReal => y * c := fun a b hab => mul_le_mul_of_nonneg_right hab hc
  have := hm.map_max (a := x) (b := -x)
  simp only [EReal.neg_mul] at this
  exact this

theorem sq_nonneg' (x : EReal) : 0 ≤ x * x := by
  induction x with
  | bot => simp
  | top => simp
  | coe r => exact_mod_cast mul_self_nonneg r

section Row

variable (X G : Fin 5120 → EReal)

/-- The sum of the squares. -/
def ss : EReal := ∑ d, X d * X d

/-- The reciprocal root mean square. -/
def rstd : EReal := Ideal.rsqrt (ss X * ((1 / 5120 : ℝ) : EReal) + eps)

/-- The normalised row. -/
def normal (d : Fin 5120) : EReal := X d * rstd X * G d

/-- Its largest magnitude. -/
def amax : EReal := Finset.univ.fold max (⊥ : EReal) fun d => mag (normal X G d)

/-- The row's scale: the smallest power of two above a 448th of that, and 1 for a row of zeros. -/
def scale : EReal :=
  if amax X G = 0 then 1 else
    Finset.univ.fold min (⊤ : EReal) (fun k : Fin 254 => if amax X G * part448 < pw (k.val + 1) then pw (k.val + 1) else ⊤)

/-- The row's codes. -/
def code (d : Fin 5120) : EReal :=
  min (Ideal.ofBits .f32 0x43E00000#32) (max (Ideal.ofBits .f32 0xC3E00000#32) (Ideal.div (normal X G d) (scale X G)))

theorem ss_nonneg : 0 ≤ ss X := Finset.sum_nonneg fun d _ => sq_nonneg' (X d)

theorem ss_real_or (h : ∀ d, X d ≠ ⊤ ∧ X d ≠ ⊥) : ss X = ((∑ d, (X d).toReal * (X d).toReal : ℝ) : EReal) := by
  have : ∀ d, X d * X d = (((X d).toReal * (X d).toReal : ℝ) : EReal) := fun d => by
    rw [EReal.coe_mul, EReal.coe_toReal (h d).1 (h d).2]
  unfold ss
  simp only [this]
  exact (map_sum (⟨⟨fun r : ℝ => (r : EReal), rfl⟩, fun _ _ => EReal.coe_add _ _⟩ : ℝ →+ EReal) _ _).symm

theorem ss_top {d : Fin 5120} (h : X d = ⊤ ∨ X d = ⊥) : ss X = ⊤ := by
  have h1 : X d * X d = ⊤ := by rcases h with h | h <;> rw [h] <;> simp
  exact top_le_iff.1 (h1 ▸ Finset.single_le_sum (f := fun d => X d * X d) (fun d _ => sq_nonneg' (X d)) (Finset.mem_univ d))

theorem rstd_real {s : ℝ} (h : ss X = (s : EReal)) : 0 ≤ s ∧ rstd X = (((Real.sqrt (s * (1 / 5120) + 8796093 * 2 ^ (-43 : ℤ)))⁻¹ : ℝ) : EReal) := by
  have hs : 0 ≤ s := by exact_mod_cast h ▸ ss_nonneg X
  have hp : 0 < s * (1 / 5120) + 8796093 * 2 ^ (-43 : ℤ) := by positivity
  refine ⟨hs, ?_⟩
  unfold rstd
  rw [h, eps_eq, ← EReal.coe_mul, ← EReal.coe_add]
  show (if _ then _ else if _ then _ else _) = _
  rw [if_neg (not_lt.2 hp.le), if_neg hp.ne']

theorem rstd_top (h : ss X = ⊤) : rstd X = 0 := by
  unfold rstd
  rw [h, eps_eq, EReal.top_mul_coe_of_pos (by norm_num), EReal.top_add_coe]
  rfl

theorem rstd_nonneg : 0 ≤ rstd X := by
  by_cases h : ∃ d, X d = ⊤ ∨ X d = ⊥
  · obtain ⟨d, hd⟩ := h
    rw [rstd_top X (ss_top X hd)]
  · push Not at h
    rw [(rstd_real X (ss_real_or X h)).2]
    exact_mod_cast inv_nonneg.2 (Real.sqrt_nonneg _)

/-- A normalised element before the weight is small. -/
theorem unit_le (d : Fin 5120) : ∃ u : ℝ, X d * rstd X = (u : EReal) ∧ |u| ≤ 72 := by
  by_cases h : ∃ d, X d = ⊤ ∨ X d = ⊥
  · obtain ⟨d', hd⟩ := h
    exact ⟨0, by rw [rstd_top X (ss_top X hd)]; simp, by norm_num⟩
  · push Not at h
    obtain ⟨hs, hr⟩ := rstd_real X (ss_real_or X h)
    have hd : (X d).toReal * (X d).toReal ≤ ∑ d, (X d).toReal * (X d).toReal :=
      Finset.single_le_sum (f := fun d => (X d).toReal * (X d).toReal) (fun d _ => mul_self_nonneg _) (Finset.mem_univ d)
    generalize (∑ d, (X d).toReal * (X d).toReal) = s at hs hr hd
    have hq : (0 : ℝ) < 8796093 * 2 ^ (-43 : ℤ) := by positivity
    generalize (8796093 * 2 ^ (-43 : ℤ) : ℝ) = q at hr hq
    have hp : 0 < s * (1 / 5120) + q := by linarith
    have hv : s ≤ 5120 * (s * (1 / 5120) + q) := by linarith
    generalize s * (1 / 5120) + q = v at hr hp hv
    refine ⟨(X d).toReal * (Real.sqrt v)⁻¹, ?_, ?_⟩
    · rw [hr, EReal.coe_mul, EReal.coe_toReal (h d).1 (h d).2]
    · refine abs_le_of_sq_le_sq ?_ (by norm_num)
      rw [mul_pow, inv_pow, Real.sq_sqrt hp.le, ← div_eq_mul_inv, div_le_iff₀ hp]
      nlinarith

theorem normal_le (hG : ∀ d, mag (G d) ≤ big) (d : Fin 5120) : mag (normal X G d) ≤ ((72 * (255 * 2 ^ (120 : ℤ)) : ℝ) : EReal) := by
  obtain ⟨u, hu, hb⟩ := unit_le X d
  have hg := hG d
  rw [big_eq] at hg
  have h1 : G d ≤ ((255 * 2 ^ (120 : ℤ) : ℝ) : EReal) := (le_max_left _ _).trans hg
  have h2 : -(G d) ≤ ((255 * 2 ^ (120 : ℤ) : ℝ) : EReal) := (le_max_right _ _).trans hg
  have ht : G d ≠ ⊤ := fun e => by rw [e] at h1; exact absurd h1 (not_le.2 (EReal.coe_lt_top _))
  have hb' : G d ≠ ⊥ := fun e => by rw [e] at h2; simp only [EReal.neg_bot] at h2; exact absurd h2 (not_le.2 (EReal.coe_lt_top _))
  obtain ⟨g, hgd⟩ : ∃ g : ℝ, G d = (g : EReal) := ⟨(G d).toReal, (EReal.coe_toReal ht hb').symm⟩
  rw [hgd] at h1 h2
  unfold normal
  rw [hu, hgd, ← EReal.coe_mul]
  have h1' : g ≤ 255 * 2 ^ (120 : ℤ) := by exact_mod_cast h1
  have h2' : -g ≤ 255 * 2 ^ (120 : ℤ) := by
    rw [← EReal.coe_neg] at h2
    exact EReal.coe_le_coe_iff.1 h2
  have ha : |u * g| ≤ 72 * (255 * 2 ^ (120 : ℤ)) := by
    rw [abs_mul]
    exact mul_le_mul hb (abs_le.2 ⟨by linarith, h1'⟩) (abs_nonneg _) (by norm_num)
  refine max_le ?_ ?_
  · exact EReal.coe_le_coe_iff.2 ((le_abs_self _).trans ha)
  · rw [← EReal.coe_neg]
    exact EReal.coe_le_coe_iff.2 ((neg_le_abs _).trans ha)

theorem amax_nonneg : 0 ≤ amax X G :=
  (Finset.le_fold_max _).2 (.inr ⟨0, Finset.mem_univ _, mag_nonneg _⟩)

theorem part_nonneg : 0 ≤ amax X G * part448 :=
  mul_nonneg (amax_nonneg X G) (by rw [part448_eq]; exact_mod_cast (by positivity))

/-- A 448th of the largest magnitude is below the greatest scale whose reciprocal is a normal number. -/
theorem part_lt (hG : ∀ d, mag (G d) ≤ big) : amax X G * part448 < pw 253 := by
  have h1 : amax X G ≤ ((72 * (255 * 2 ^ (120 : ℤ)) : ℝ) : EReal) :=
    (Finset.fold_max_le _).2 ⟨bot_le, fun d _ => normal_le X G hG d⟩
  have h2 : amax X G * part448 ≤ ((72 * (255 * 2 ^ (120 : ℤ)) : ℝ) : EReal) * part448 :=
    mul_le_mul_of_nonneg_right h1 (by rw [part448_eq]; exact_mod_cast (by positivity))
  refine h2.trans_lt ?_
  rw [part448_eq, ← EReal.coe_mul, pw, EReal.coe_lt_coe_iff]
  norm_num

/-- The largest magnitude, taken before the norm. -/
theorem amax_eq : amax X G = (Finset.univ.fold max (⊥ : EReal) fun d => mag (X d * G d)) * rstd X := by
  have hm : Monotone fun y : EReal => y * rstd X := fun a b hab => mul_le_mul_of_nonneg_right hab (rstd_nonneg X)
  have hf : ∀ d, mag (normal X G d) = mag (X d * G d) * rstd X := fun d => by
    rw [mag_mul (rstd_nonneg X)]
    unfold normal
    rw [mul_right_comm]
  unfold amax
  simp only [hf]
  have hne : (Finset.univ : Finset (Fin 5120)).Nonempty := ⟨0, Finset.mem_univ _⟩
  have key : ∀ f : Fin 5120 → EReal, Finset.univ.fold max (⊥ : EReal) f = Finset.univ.sup' hne f := fun f => by
    rw [Finset.sup'_eq_sup]; rfl
  rw [key, key]
  exact (Finset.comp_sup'_eq_sup'_comp hne (fun y : EReal => y * rstd X) (fun a b => hm.map_max)).symm

/-- The exponent field of a row's scale. -/
theorem exists_field (hG : ∀ d, mag (G d) ≤ big) : ∃ N, N ≤ 252 ∧ (∀ j, 1 ≤ j → (amax X G * part448 < pw j ↔ N < j)) ∧
    scale X G = pw (if amax X G = 0 then 127 else N + 1) := by
  obtain ⟨N, hN, h⟩ := exists_level (part_lt X G hG)
  refine ⟨N, hN, h, ?_⟩
  unfold scale
  rw [min_level hN h]
  split
  · exact pw_127.symm
  · rfl

theorem div_pw (x : EReal) {k : ℕ} (h : k ≤ 254) : Ideal.div x (pw k) = x * pw (254 - k) := by
  unfold Ideal.div
  rw [if_neg (pw_pos k).ne', pw_inv h]

end Row

/-- Counting the floors below a level. -/
theorem count_eq : ∀ N : Fin 253, Finset.univ.fold IntOp.addi 0#32 (fun k : Fin 256 => if N.val < k.val then 0#32 else 1#32) = BitVec.ofNat 32 (N.val + 1) := by
  decide +kernel

/-- The bits of a scale, and of its reciprocal, from the count. -/
theorem bits_eq : ∀ N : Fin 253,
    IntOp.shli .vector (IntOp.addi (IntOp.subi (IntOp.subi (BitVec.ofNat 32 (N.val + 1)) 1#32) 126#32) 127#32) 23#32 = BitVec.ofNat 32 (N.val + 1) <<< 23 ∧
    IntOp.shli .vector (IntOp.subi 127#32 (IntOp.subi (IntOp.subi (BitVec.ofNat 32 (N.val + 1)) 1#32) 126#32)) 23#32 = BitVec.ofNat 32 (254 - (N.val + 1)) <<< 23 := by
  decide +kernel

/-! ## The projection -/

section Projection

variable (X G : Fin 5120 → EReal) (W : Fin 5120 → Fin 3584 → EReal) (ws : Fin 3584 → EReal)

/-- A column of the projection of a quantised row. -/
def proj (n : Fin 3584) : EReal := (∑ d, code X G d * W d n) * scale X G * ws n

/-- Column `e` of head `n`. -/
abbrev col (n : Fin 28) (e : Fin 128) : Fin 3584 := ⟨128 * n.val + e.val, by omega⟩

/-- Head `n` of the projection. -/
def head (n : Fin 28) : Fin 128 → EReal := fun e => proj X G W ws (col n e)

end Projection

/-- The norm of a head. -/
def headNorm (y hw : Fin 128 → EReal) (e : Fin 128) : EReal :=
  y e * Ideal.rsqrt ((∑ k, y k * y k) * ((1 / 128 : ℝ) : EReal) + eps) * hw e

theorem part128 : Ideal.ofBits .f32 0x3C000000#32 = ((1 / 128 : ℝ) : EReal) := by
  refine (ieee_normal (e := 8) (m := 23) 0x3C000000#32 120 0 (by decide) (by decide) (by decide) (by decide) (by decide)).trans ?_
  norm_num

theorem of128 : Ideal.ofBits .f32 0x43000000#32 = ((128 : ℝ) : EReal) := by
  refine (ieee_normal (e := 8) (m := 23) 0x43000000#32 134 0 (by decide) (by decide) (by decide) (by decide) (by decide)).trans ?_
  norm_num

theorem of5120 : Ideal.ofBits .f32 0x45A00000#32 = ((5120 : ℝ) : EReal) := by
  refine (ieee_normal (e := 8) (m := 23) 0x45A00000#32 139 2097152 (by decide) (by decide) (by decide) (by decide) (by decide)).trans ?_
  norm_num

end Cert.Rows

end
-- ==== Proof.Ref.lean ====
/-
  Hand-written. The reference's arrays over the extended reals, element by element: the quantiser of a row, the projection
  and the norm of each head.
-/
module

public import proofs.«01_k».proof.Proof.Gen.ReferenceIdeal.Skeleton
public import proofs.«01_k».proof.Proof.Rows
public import Idealize.ShloMosaic.Lib.Pointwise
public import Idealize.ShloMosaic.Lib.Pipeline.ValueKit

@[expose] public section

noncomputable section

namespace Cert.ReferenceIdeal.Hand

open Idealize.ShloMosaic Cert.ReferenceIdeal.Gen

variable (x : Vec Ideal S6x1024x5120 .bf16) (g : Vec Ideal S1x1x5120 .bf16)

/-- A row of the input. -/
abbrev rowOf (b : Fin 6) (s : Fin 1024) : Fin 5120 → EReal := fun d => x (ix3 b s d)

/-- The norm's weight. -/
abbrev weightOf : Fin 5120 → EReal := fun d => g (ix3 (0 : Fin 1) (0 : Fin 1) d)

/-! ## The quantiser -/

/-- The least code. -/
abbrev least : Ideal .f32 := Scalar.ofBits .f32 0xC3E00000#32

/-- The greatest code. -/
abbrev most : Ideal .f32 := Scalar.ofBits .f32 0x43E00000#32

theorem pay3_apply (b : Fin 6) (s : Fin 1024) (d : Fin 5120) : k0_pay3 x g (ix3 b s d) = Rows.normal (rowOf x b s) (weightOf g) d := by
  unfold k0_pay3
  pointwise
  rw [Rows.of5120, Ideal.div_coe (by norm_num)]
  rfl

/-- The largest magnitude of each row. -/
def amaxR (h : FVec Ideal S6x1024x5120 .f32) : FVec Ideal S6x1024x1 .f32 :=
  shapeCast S6x1024x1 (multiReduction .maximumf [2] S6x1024 (absf h) 0xFF800000#32 reduces_S6x1024x5120_S6x1024 (.inl rfl) rfl) shapeCasts_S6x1024_S6x1024x1

/-- The powers of two. -/
def floorsR : FVec Ideal S1x1x254 .f32 :=
  exp2 (sitofp .f32 (subi (iota .tc S1x1x254 32 [2] iota_S1x1x254_d2_w32) (broadcast S1x1x254 126#32)))

/-- The least of those above a row's bound. -/
def leastR (t : FVec Ideal S6x1024x1 .f32) : FVec Ideal S6x1024x1 .f32 :=
  shapeCast S6x1024x1 (multiReduction .minimumf [2] S6x1024
    (select (cmpf .olt (broadcastTo S6x1024x254 t broadcasts_S6x1024x1_S6x1024x254) (broadcastTo S6x1024x254 floorsR broadcasts_S1x1x254_S6x1024x254))
      (broadcastTo S6x1024x254 (shapeCast S1x1x254 floorsR shapeCasts_S1x1x254_S1x1x254) broadcasts_S1x1x254_S6x1024x254)
      (broadcast S6x1024x254 (Scalar.ofBits .f32 0x7F800000#32)))
    0x7F800000#32 reduces_S6x1024x254_S6x1024 (.inl rfl) rfl) shapeCasts_S6x1024_S6x1024x1

theorem amaxR_apply (h : FVec Ideal S6x1024x5120 .f32) (b : Fin 6) (s : Fin 1024) : amaxR h (ix3 b s (0 : Fin 1)) =
    Finset.univ.fold max (⊥ : EReal) fun d : Fin 5120 => Rows.mag (h (ix3 b s d)) := by
  unfold amaxR
  pointwise
  have e : Ideal.ofBits .f32 0xFF800000#32 = ⊥ := by simp [Ideal.ofBits, Ideal.ieee]
  rw [e]
  rfl

theorem floorsR_apply (k : Fin 254) : floorsR (ix3 (0 : Fin 1) (0 : Fin 1) k) = Rows.pw (k.val + 1) := by
  unfold floorsR
  pointwise
  exact Rows.exp2_pw k

theorem leastR_apply (t : FVec Ideal S6x1024x1 .f32) (b : Fin 6) (s : Fin 1024) : leastR t (ix3 b s (0 : Fin 1)) =
    Finset.univ.fold min (⊤ : EReal) (fun k : Fin 254 => if t (ix3 b s (0 : Fin 1)) < Rows.pw (k.val + 1) then Rows.pw (k.val + 1) else ⊤) := by
  have hf := floorsR_apply
  unfold leastR
  generalize floorsR = f at hf
  pointwise
  have e : Ideal.ofBits .f32 0x7F800000#32 = ⊤ := by simp [Ideal.ofBits, Ideal.ieee]
  simp only [hf, e]

theorem pay4_eq : k0_pay4 x g = select (cmpf .oeq (amaxR (k0_pay3 x g)) (broadcast S6x1024x1 (Scalar.ofBits .f32 0x00000000#32)))
    (broadcast S6x1024x1 (Scalar.ofBits .f32 0x3F800000#32)) (leastR (mulf (amaxR (k0_pay3 x g)) (broadcast S6x1024x1 (Scalar.ofBits .f32 0x3B124925#32)))) := rfl

theorem pick_apply (v l : FVec Ideal S6x1024x1 .f32) (b : Fin 6) (s : Fin 1024) :
    (select (cmpf .oeq v (broadcast S6x1024x1 (Scalar.ofBits .f32 0x00000000#32))) (broadcast S6x1024x1 (Scalar.ofBits .f32 0x3F800000#32)) l :
      FVec Ideal S6x1024x1 .f32) (ix3 b s (0 : Fin 1)) = if v (ix3 b s (0 : Fin 1)) = 0 then 1 else l (ix3 b s (0 : Fin 1)) := by
  pointwise

theorem bound_apply (v : FVec Ideal S6x1024x1 .f32) (b : Fin 6) (s : Fin 1024) :
    (mulf v (broadcast S6x1024x1 (Scalar.ofBits .f32 0x3B124925#32)) : FVec Ideal S6x1024x1 .f32) (ix3 b s (0 : Fin 1)) = v (ix3 b s (0 : Fin 1)) * Rows.part448 := rfl

theorem largest_apply (b : Fin 6) (s : Fin 1024) : amaxR (k0_pay3 x g) (ix3 b s (0 : Fin 1)) = Rows.amax (rowOf x b s) (weightOf g) := by
  rw [amaxR_apply]
  simp only [pay3_apply]
  unfold Rows.amax
  rfl

theorem pay4_apply (b : Fin 6) (s : Fin 1024) : k0_pay4 x g (ix3 b s (0 : Fin 1)) = Rows.scale (rowOf x b s) (weightOf g) := by
  rw [pay4_eq, pick_apply, leastR_apply, bound_apply, largest_apply]
  generalize hA : Rows.amax (rowOf x b s) (weightOf g) = A
  unfold Rows.scale
  rw [hA]

theorem divR_apply (h : FVec Ideal S6x1024x5120 .f32) (v : FVec Ideal S6x1024x1 .f32) (b : Fin 6) (s : Fin 1024) (d : Fin 5120) :
    divf h (broadcastTo S6x1024x5120 v broadcasts_S6x1024x1_S6x1024x5120) (ix3 b s d) = Ideal.div (h (ix3 b s d)) (v (ix3 b s (0 : Fin 1))) := by
  pointwise

theorem pay5_eq : k0_pay5 x g = divf (k0_pay3 x g) (broadcastTo S6x1024x5120 (k0_pay4 x g) broadcasts_S6x1024x1_S6x1024x5120) := rfl

theorem pay5_apply (b : Fin 6) (s : Fin 1024) (d : Fin 5120) : k0_pay5 x g (ix3 b s d) =
    Ideal.div (Rows.normal (rowOf x b s) (weightOf g) d) (Rows.scale (rowOf x b s) (weightOf g)) := by
  rw [pay5_eq, divR_apply, pay3_apply, pay4_apply]

theorem clip_apply (v : FVec Ideal S6x1024x5120 .f32) (b : Fin 6) (s : Fin 1024) (d : Fin 5120) : k0_pay6 v least most (ix3 b s d) =
    min (Ideal.ofBits .f32 0x43E00000#32) (max (Ideal.ofBits .f32 0xC3E00000#32) (v (ix3 b s d))) := by
  unfold k0_pay6
  pointwise

theorem pay6_apply (b : Fin 6) (s : Fin 1024) (d : Fin 5120) : k0_pay6 (k0_pay5 x g) least most (ix3 b s d) = Rows.code (rowOf x b s) (weightOf g) d := by
  rw [clip_apply, pay5_apply]
  unfold Rows.code
  rfl

/-! ## The projection -/

section Blocks

variable (u : FVec Ideal S6x1024x1 .f32) (v : FVec Ideal S6x1024x5120 .f32) (w : Vec Ideal S5120x3584 .fp8e4m3) (ws : Vec Ideal S1x1x3584 .f32)
  (hw : Vec Ideal S1x1x1x128 .bf16) (b : Fin 6) (s : Fin 1024)

theorem projR_apply (n : Fin 3584) : k0_pay7 u v least most w ws (ix3 b s n) =
    (∑ d : Fin 5120, k0_pay6 v least most (ix3 b s d) * w (ix2 d n)) * u (ix3 b s (0 : Fin 1)) * ws (ix3 (0 : Fin 1) (0 : Fin 1) n) := by
  unfold k0_pay7
  pointwise

theorem keysR_apply (h : Fin 4) (e : Fin 128) : k0_pay8 u v least most w ws (ix4 b s h e) = k0_pay7 u v least most w ws (ix3 b s (Rows.col ⟨20 + h.val, by omega⟩ e)) := by
  have hc : (⟨2560 + (h.val * 128 + e.val), by omega⟩ : Fin 3584) = Rows.col ⟨20 + h.val, by omega⟩ e :=
    Fin.ext (by show 2560 + (h.val * 128 + e.val) = 128 * (20 + h.val) + e.val; omega)
  rw [← hc]
  unfold k0_pay8
  generalize k0_pay7 u v least most w ws = y
  clear hc
  pointwise

theorem valuesR_apply (h : Fin 4) (e : Fin 128) : k0_pay9 u v least most w ws (ix4 b s h e) = k0_pay7 u v least most w ws (ix3 b s (Rows.col ⟨24 + h.val, by omega⟩ e)) := by
  have hc : (⟨3072 + (h.val * 128 + e.val), by omega⟩ : Fin 3584) = Rows.col ⟨24 + h.val, by omega⟩ e :=
    Fin.ext (by show 3072 + (h.val * 128 + e.val) = 128 * (24 + h.val) + e.val; omega)
  rw [← hc]
  unfold k0_pay9
  generalize k0_pay7 u v least most w ws = y
  clear hc
  pointwise

theorem queriesR_apply (h : Fin 20) (e : Fin 128) : k0_pay10 u v least most w ws hw (ix4 b s h e) =
    k0_pay7 u v least most w ws (ix3 b s (⟨h.val * 128 + e.val, by omega⟩ : Fin 3584)) *
      Ideal.rsqrt (Ideal.div (∑ k : Fin 128, k0_pay7 u v least most w ws (ix3 b s (⟨h.val * 128 + k.val, by omega⟩ : Fin 3584)) *
        k0_pay7 u v least most w ws (ix3 b s (⟨h.val * 128 + k.val, by omega⟩ : Fin 3584))) (Ideal.ofBits .f32 0x43000000#32) + Ideal.ofBits .f32 0x358637BD#32) *
      hw (ix4 (0 : Fin 1) (0 : Fin 1) (0 : Fin 1) e) := by
  unfold k0_pay10
  generalize k0_pay7 u v least most w ws = y
  pointwise

theorem normR_apply (y : FVec Ideal S6x1024x4x128 .f32) (h : Fin 4) (e : Fin 128) : k0_pay1 y hw (ix4 b s h e) =
    y (ix4 b s h e) * Ideal.rsqrt (Ideal.div (∑ k : Fin 128, y (ix4 b s h k) * y (ix4 b s h k)) (Ideal.ofBits .f32 0x43000000#32) + Ideal.ofBits .f32 0x358637BD#32) *
      hw (ix4 (0 : Fin 1) (0 : Fin 1) (0 : Fin 1) e) := by
  unfold k0_pay1
  pointwise

theorem norm_eq (y q : Fin 128 → EReal) (e : Fin 128) : y e * Ideal.rsqrt (Ideal.div (∑ k, y k * y k) (Ideal.ofBits .f32 0x43000000#32) + Ideal.ofBits .f32 0x358637BD#32) * q e =
    Rows.headNorm y q e := by
  rw [Rows.of128, Ideal.div_coe (by norm_num)]
  rfl

end Blocks

variable (w : Vec Ideal S5120x3584 .fp8e4m3) (ws : Vec Ideal S1x1x3584 .f32) (hw : Vec Ideal S1x1x1x128 .bf16)

/-- The weight's scales. -/
abbrev wsOf : Fin 3584 → EReal := fun n => ws (ix3 (0 : Fin 1) (0 : Fin 1) n)

/-- A head norm's weight. -/
abbrev hwOf : Fin 128 → EReal := fun e => hw (ix4 (0 : Fin 1) (0 : Fin 1) (0 : Fin 1) e)

/-- The projection's weight. -/
abbrev wOf : Fin 5120 → Fin 3584 → EReal := fun d n => w (ix2 d n)

/-- Head `n` of a row. -/
abbrev headOf (b : Fin 6) (s : Fin 1024) (n : Fin 28) : Fin 128 → EReal :=
  Rows.head (rowOf x b s) (weightOf g) (wOf w) (wsOf ws) n

theorem pay7_apply (b : Fin 6) (s : Fin 1024) (n : Fin 3584) : k0_pay7 (k0_pay4 x g) (k0_pay5 x g) least most w ws (ix3 b s n) =
    Rows.proj (rowOf x b s) (weightOf g) (wOf w) (wsOf ws) n := by
  rw [projR_apply, pay4_apply]
  simp only [pay6_apply]
  rfl

theorem pay8_apply (b : Fin 6) (s : Fin 1024) (h : Fin 4) (e : Fin 128) : k0_pay8 (k0_pay4 x g) (k0_pay5 x g) least most w ws (ix4 b s h e) =
    headOf x g w ws b s ⟨20 + h.val, by omega⟩ e := by
  rw [keysR_apply, pay7_apply]
  rfl

theorem pay9_apply (b : Fin 6) (s : Fin 1024) (h : Fin 4) (e : Fin 128) : k0_pay9 (k0_pay4 x g) (k0_pay5 x g) least most w ws (ix4 b s h e) =
    headOf x g w ws b s ⟨24 + h.val, by omega⟩ e := by
  rw [valuesR_apply, pay7_apply]
  rfl

theorem pay10_apply (b : Fin 6) (s : Fin 1024) (h : Fin 20) (e : Fin 128) : k0_pay10 (k0_pay4 x g) (k0_pay5 x g) least most w ws hw (ix4 b s h e) =
    Rows.headNorm (headOf x g w ws b s ⟨h.val, by omega⟩) (hwOf hw) e := by
  have hc : ∀ e : Fin 128, (⟨h.val * 128 + e.val, by omega⟩ : Fin 3584) = Rows.col ⟨h.val, by omega⟩ e :=
    fun e => Fin.ext (by show h.val * 128 + e.val = 128 * h.val + e.val; omega)
  rw [queriesR_apply]
  simp only [hc, pay7_apply]
  exact norm_eq (headOf x g w ws b s ⟨h.val, by omega⟩) (hwOf hw) e

theorem pay1_apply (b : Fin 6) (s : Fin 1024) (h : Fin 4) (e : Fin 128) :
    k0_pay1 (k0_pay8 (k0_pay4 x g) (k0_pay5 x g) least most w ws) hw (ix4 b s h e) =
    Rows.headNorm (headOf x g w ws b s ⟨20 + h.val, by omega⟩) (hwOf hw) e := by
  rw [normR_apply]
  simp only [pay8_apply]
  exact norm_eq (headOf x g w ws b s ⟨20 + h.val, by omega⟩) (hwOf hw) e

theorem pay2_apply (b : Fin 6) (s : Fin 1024) (h : Fin 4) (e : Fin 128) :
    k0_pay2 (k0_pay9 (k0_pay4 x g) (k0_pay5 x g) least most w ws) (ix4 b s h e) = headOf x g w ws b s ⟨24 + h.val, by omega⟩ e :=
  pay9_apply x g w ws b s h e

end Cert.ReferenceIdeal.Hand
-- ==== Proof.RefRun.lean ====
/-
  Hand-written. The reference's result arrays after its run, element by element, in terms of the arguments.
-/
module

public import proofs.«01_k».proof.Proof.Gen.ReferenceIdeal.Frame
public import proofs.«01_k».proof.Proof.Ref
public import Idealize.ShloMosaic.Lib.Pipeline.ValueKit

@[expose] public section

set_option maxRecDepth 16384

noncomputable section

namespace Cert.ReferenceIdeal.Hand

open Idealize.ShloMosaic Idealize.ShloMosaic.TcCoe Cert.ReferenceIdeal Cert.ReferenceIdeal.Gen
open Idealize.SL.Sem

variable (m : (ℓ : Loc nD τ sig) → Buf (Elt Ideal) ℓ) (c : Dev nD)

/-- Row `(b, s)` of the input. -/
abbrev argRow (b : Fin 6) (s : Fin 1024) : Fin 5120 → EReal := fun d => m ((c : Thread nD τ).loc main_arg0) (ix3 b s d)
/-- The norm's weight. -/
abbrev argG : Fin 5120 → EReal := fun d => m ((c : Thread nD τ).loc main_arg1) (ix1 d)
/-- The projection's weight. -/
abbrev argW : Fin 5120 → Fin 3584 → EReal := fun d n => m ((c : Thread nD τ).loc main_arg2) (ix2 d n)
/-- The projection's scales. -/
abbrev argWs : Fin 3584 → EReal := fun n => m ((c : Thread nD τ).loc main_arg3) (ix1 n)
/-- The queries' norm. -/
abbrev argQ : Fin 128 → EReal := fun e => m ((c : Thread nD τ).loc main_arg4) (ix1 e)
/-- The keys' norm. -/
abbrev argK : Fin 128 → EReal := fun e => m ((c : Thread nD τ).loc main_arg5) (ix1 e)

theorem idx : ∀ t : Fin cfg0.N, win0_0.index t = ![0, 0, 0] ∧ win0_1.index t = ![0, 0, 0] ∧ win0_2.index t = ![0, 0] ∧ win0_3.index t = ![0, 0, 0]
    ∧ win0_4.index t = ![0, 0, 0, 0] ∧ win0_5.index t = ![0, 0, 0, 0] :=
  (by decide +kernel : ∀ t : Fin grid0.N, _)

theorem ld_x (x : Vec Ideal S6x1024x5120 .bf16) : View.ld x r0_0 = x :=
  View.ld_unit_zero (off := ![0, 0, 0]) (by funext a; fin_cases a <;> rfl) _ x

theorem ld_g (g : Vec Ideal S1x1x5120 .bf16) : View.ld g r0_1 = g :=
  View.ld_unit_zero (off := ![0, 0, 0]) (by funext a; fin_cases a <;> rfl) _ g

theorem row_eq (b : Fin 6) (s : Fin 1024) : rowOf (View.ld (iblk m c 0 t0_0) r0_0) b s = argRow m c b s := by
  rw [ld_x]
  funext d
  show iblk m c 0 t0_0 (ix3 b s d) = m ((c : Thread nD τ).loc main_arg0) (ix3 b s d)
  blk_ext [iblk, V, idx t0_0]

theorem weight_eq : weightOf (View.ld (iblk m c 1 t0_0) r0_1) = argG m c := by
  rw [ld_g]
  funext d
  show iblk m c 1 t0_0 (ix3 0 0 d) = m ((c : Thread nD τ).loc main_arg1) (ix1 d)
  blk_simp [iblk, idx t0_0]
  entry_read
  pointwise
  blk_ext [idx t0_0]

theorem w_eq : wOf (iblk m c 2 t0_0) = argW m c := by
  funext d n
  show iblk m c 2 t0_0 (ix2 d n) = m ((c : Thread nD τ).loc main_arg2) (ix2 d n)
  blk_ext [iblk, V, idx t0_0]

theorem ws_eq : wsOf (iblk m c 3 t0_0) = argWs m c := by
  funext d
  show iblk m c 3 t0_0 (ix3 0 0 d) = m ((c : Thread nD τ).loc main_arg3) (ix1 d)
  blk_simp [iblk, idx t0_0]
  entry_read
  pointwise
  blk_ext [idx t0_0]

theorem q_eq : hwOf (iblk m c 4 t0_0) = argQ m c := by
  funext d
  show iblk m c 4 t0_0 (ix4 0 0 0 d) = m ((c : Thread nD τ).loc main_arg4) (ix1 d)
  blk_simp [iblk, idx t0_0]
  entry_read
  pointwise
  blk_ext [idx t0_0]

theorem k_eq : hwOf (iblk m c 5 t0_0) = argK m c := by
  funext d
  show iblk m c 5 t0_0 (ix4 0 0 0 d) = m ((c : Thread nD τ).loc main_arg5) (ix1 d)
  blk_simp [iblk, idx t0_0]
  entry_read
  pointwise
  blk_ext [idx t0_0]

/-- The queries. -/
def queries : S6x1024x20x128.Idx → EReal := fun i => Rows.headNorm (Rows.head (argRow m c (i 0) (i 1)) (argG m c) (argW m c) (argWs m c) ⟨(i 2).val, by have : (i 2).val < 20 := (i 2).isLt; omega⟩) (argQ m c) (i 3)
/-- The keys. -/
def keys : S6x1024x4x128.Idx → EReal := fun i => Rows.headNorm (Rows.head (argRow m c (i 0) (i 1)) (argG m c) (argW m c) (argWs m c) ⟨20 + (i 2).val, by have : (i 2).val < 4 := (i 2).isLt; omega⟩) (argK m c) (i 3)
/-- The values. -/
def values : S6x1024x4x128.Idx → EReal := fun i => Rows.head (argRow m c (i 0) (i 1)) (argG m c) (argW m c) (argWs m c) ⟨24 + (i 2).val, by have : (i 2).val < 4 := (i 2).isLt; omega⟩ (i 3)
/-- The codes. -/
def codes : S6x1024x5120.Idx → EReal := fun i => Rows.code (argRow m c (i 0) (i 1)) (argG m c) (i 2)
/-- The scales. -/
def scales : S6x1024x1.Idx → EReal := fun i => Rows.scale (argRow m c (i 0) (i 1)) (argG m c)

theorem queries_final : (dats m 0 c).arrAt 6 (cfgs 0).N = queries m c := by
  refine (dats m 0 c).arrAt_eq_of_after_last 6 t0_0 (by decide +kernel) _ fun j => ?_
  blk_simp
  rw [after0_6]
  frame_out
  unfold k0_pay11 k0_pay12
  obtain ⟨b, s, h, e, rfl⟩ : ∃ b s h e, j = ix4 b s h e := ⟨_, _, _, _, eq_ix4 j⟩
  refine (pay10_apply _ _ _ _ _ b s h e).trans ?_
  unfold headOf
  rw [row_eq, weight_eq, w_eq, ws_eq, q_eq]
  rfl

theorem keys_final : (dats m 0 c).arrAt 7 (cfgs 0).N = keys m c := by
  refine (dats m 0 c).arrAt_eq_of_after_last 7 t0_0 (by decide +kernel) _ fun j => ?_
  blk_simp
  rw [after0_7]
  frame_out
  unfold k0_pay11 k0_pay12
  obtain ⟨b, s, h, e, rfl⟩ : ∃ b s h e, j = ix4 b s h e := ⟨_, _, _, _, eq_ix4 j⟩
  refine (pay1_apply _ _ _ _ _ b s h e).trans ?_
  unfold headOf
  rw [row_eq, weight_eq, w_eq, ws_eq, k_eq]
  rfl

theorem values_final : (dats m 0 c).arrAt 8 (cfgs 0).N = values m c := by
  refine (dats m 0 c).arrAt_eq_of_after_last 8 t0_0 (by decide +kernel) _ fun j => ?_
  blk_simp
  rw [after0_8]
  frame_out
  unfold k0_pay11 k0_pay12
  obtain ⟨b, s, h, e, rfl⟩ : ∃ b s h e, j = ix4 b s h e := ⟨_, _, _, _, eq_ix4 j⟩
  refine (pay2_apply _ _ _ _ b s h e).trans ?_
  unfold headOf
  rw [row_eq, weight_eq, w_eq, ws_eq]
  rfl

theorem codes_final : (dats m 0 c).arrAt 9 (cfgs 0).N = codes m c := by
  refine (dats m 0 c).arrAt_eq_of_after_last 9 t0_0 (by decide +kernel) _ fun j => ?_
  blk_simp
  rw [after0_9]
  frame_out
  unfold k0_pay12
  obtain ⟨b, s, d, rfl⟩ : ∃ b s d, j = ix3 b s d := ⟨_, _, _, eq_ix3 j⟩
  refine (pay6_apply _ _ b s d).trans ?_
  rw [row_eq, weight_eq]
  rfl

theorem scale_final : (dats m 0 c).arrAt 10 (cfgs 0).N = scales m c := by
  refine (dats m 0 c).arrAt_eq_of_after_last 10 t0_0 (by decide +kernel) _ fun j => ?_
  blk_simp
  rw [after0_10]
  frame_out
  unfold k0_pay11
  obtain ⟨b, s, d, rfl⟩ : ∃ b s d, j = ix3 b s d := ⟨_, _, _, eq_ix3 j⟩
  have hd : d = (0 : Fin 1) := Subsingleton.elim d (0 : Fin 1)
  subst hd
  refine (pay4_apply _ _ b s).trans ?_
  rw [row_eq, weight_eq]
  rfl

end Cert.ReferenceIdeal.Hand

end
-- ==== Proof.Kern.lean ====
/-
  Hand-written. The kernel's quantiser over the extended reals: what it leaves of a tile's row is that row's codes and
  scale.
-/
module

public import proofs.«01_k».proof.Proof.Spec
public import proofs.«01_k».proof.Proof.Rows
public import Idealize.ShloMosaic.Lib.Pointwise
public import Idealize.ShloMosaic.Lib.Pipeline.ValueKit

@[expose] public section

noncomputable section

namespace Cert.KernelIdeal.Hand

open Idealize.ShloMosaic
open Shapes1.Facts₀ Shapes2.Facts₀

variable [Facts]
variable (x : Vec Ideal S256x5120 .bf16) (g : Vec Ideal S1x5120 .f32) (r : Fin 8)

/-- A row of a tile. -/
abbrev rowOf (p : Fin 256) : Fin 5120 → EReal := fun d => x (ix2 p d)

/-- The norm's weight. -/
abbrev weightOf : Fin 5120 → EReal := fun d => g (ix2 (0 : Fin 1) d)

/-- A row of a row block. -/
abbrev rowAt (i : Fin 32) : Fin 256 := ⟨32 * r.val + i.val, by omega⟩

/-- A lane of a slab. -/
abbrev laneAt (c : Fin 40) (l : Fin 128) : Fin 5120 := ⟨128 * c.val + l.val, by omega⟩

theorem xBlock_apply (c : Fin 40) (i : Fin 32) (l : Fin 128) : xBlock x r c (ix2 i l) = rowOf x (rowAt r i) (laneAt c l) := by
  pointwise

theorem gBlock_apply (c : Fin 40) (i : Fin 32) (l : Fin 128) : gBlock g c (ix2 i l) = weightOf g (laneAt c l) := by
  pointwise

theorem ssAfter_apply (i : Fin 32) (l : Fin 128) : ∀ (n : ℕ) (h : n ≤ 40), ssAfter x r n h (ix2 i l) =
    ∑ c : Fin n, rowOf x (rowAt r i) (laneAt ⟨c.val, by omega⟩ l) * rowOf x (rowAt r i) (laneAt ⟨c.val, by omega⟩ l)
  | 0, _ => by
    show Ideal.ofBits .f32 0#32 = _
    rw [Ideal.ofBits_zero_f32]; rfl
  | n + 1, h => by
    show ssAfter x r n _ (ix2 i l) + xBlock x r ⟨n, by omega⟩ (ix2 i l) * xBlock x r ⟨n, by omega⟩ (ix2 i l) = _
    rw [ssAfter_apply i l n (by omega), xBlock_apply, Fin.sum_univ_castSucc]
    rfl

theorem mxAfter_le (i : Fin 32) (l : Fin 128) (b : EReal) : ∀ (n : ℕ) (h : n ≤ 40), mxAfter x g r n h (ix2 i l) ≤ b ↔
    0 ≤ b ∧ ∀ c : Fin n, Rows.mag (rowOf x (rowAt r i) (laneAt ⟨c.val, by omega⟩ l) * weightOf g (laneAt ⟨c.val, by omega⟩ l)) ≤ b
  | 0, _ => by
    show Ideal.ofBits .f32 0#32 ≤ b ↔ _
    rw [Ideal.ofBits_zero_f32]
    exact ⟨fun h => ⟨h, fun c => c.elim0⟩, fun h => h.1⟩
  | n + 1, h => by
    show max (mxAfter x g r n _ (ix2 i l)) (Rows.mag (xBlock x r ⟨n, by omega⟩ (ix2 i l) * gBlock g ⟨n, by omega⟩ (ix2 i l))) ≤ b ↔ _
    rw [max_le_iff, mxAfter_le i l b n (by omega), xBlock_apply, gBlock_apply, and_assoc, Fin.forall_fin_succ']
    rfl

theorem lane_eq (d : Fin 5120) : d = laneAt ⟨d.val / 128, by omega⟩ ⟨d.val % 128, by omega⟩ :=
  Fin.ext (by show d.val = 128 * (d.val / 128) + d.val % 128; omega)

/-- A sum over the lanes of sums over the slabs is the sum over the row. -/
theorem sum_lanes (f : Fin 5120 → EReal) : ∑ l : Fin 128, ∑ c : Fin 40, f (laneAt c l) = ∑ d, f d := by
  rw [Finset.sum_comm, ← Fintype.sum_prod_type']
  refine Fintype.sum_equiv (finProdFinEquiv (m := 40) (n := 128)) _ _ fun p => ?_
  refine congrArg f (Fin.ext ?_)
  show 128 * p.1.val + p.2.val = p.2.val + 128 * p.1.val
  omega

theorem rstdOf_apply (i : Fin 32) : rstdOf x r (ix2 i (0 : Fin 1)) = Rows.rstd (rowOf x (rowAt r i)) := by
  unfold rstdOf
  pointwise
  simp only [ssAfter_apply]
  rw [sum_lanes (fun d => rowOf x (rowAt r i) d * rowOf x (rowAt r i) d)]
  rfl

/-- The largest of the lanes' largest is the row's largest. -/
theorem max_lanes (i : Fin 32) : Finset.univ.fold max (Ideal.ofBits .f32 0xFF800000#32) (fun l : Fin 128 => mxAfter x g r 40 le_rfl (ix2 i l)) =
    Finset.univ.fold max (⊥ : EReal) (fun d : Fin 5120 => Rows.mag (rowOf x (rowAt r i) d * weightOf g d)) := by
  refine eq_of_forall_ge_iff fun b => ?_
  rw [Finset.fold_max_le, Finset.fold_max_le]
  simp only [mxAfter_le]
  refine ⟨fun h => ⟨bot_le, fun d _ => ?_⟩, fun h => ⟨?_, fun l _ => ⟨?_, fun c => h.2 _ (Finset.mem_univ _)⟩⟩⟩
  · rw [lane_eq d]
    exact (h.2 ⟨d.val % 128, by omega⟩ (Finset.mem_univ _)).2 ⟨d.val / 128, by omega⟩
  · have e : Ideal.ofBits .f32 0xFF800000#32 = ⊥ := by simp [Ideal.ofBits, Ideal.ieee]
    rw [e]
    exact bot_le
  · have e : ∀ d : Fin 5120, 0 ≤ b := fun d => (Rows.mag_nonneg _).trans (h.2 d (Finset.mem_univ d))
    exact e ⟨0, by omega⟩

theorem amaxOf_apply (i : Fin 32) : amaxOf x g r (ix2 i (0 : Fin 1)) = Rows.amax (rowOf x (rowAt r i)) (weightOf g) := by
  unfold amaxOf
  pointwise
  rw [rstdOf_apply, Rows.amax_eq, ← max_lanes]

section Level

variable {g} (hG : ∀ d, Rows.mag (weightOf g d) ≤ Rows.big)
include hG

/-- The exponent that the kernel counts is that of the row's scale. -/
theorem exists_exp (i : Fin 32) : ∃ k, 1 ≤ k ∧ k ≤ 253 ∧ Rows.scale (rowOf x (rowAt r i)) (weightOf g) = Rows.pw k ∧
    IntOp.shli .vector (IntOp.addi (expOf x g r (ix2 i (0 : Fin 1))) 127#32) 23#32 = BitVec.ofNat 32 k <<< 23 ∧
    IntOp.shli .vector (IntOp.subi 127#32 (expOf x g r (ix2 i (0 : Fin 1)))) 23#32 = BitVec.ofNat 32 (254 - k) <<< 23 := by
  obtain ⟨N, hN, h, hs⟩ := Rows.exists_field (rowOf x (rowAt r i)) (weightOf g) hG
  have he : expOf x g r (ix2 i (0 : Fin 1)) = if Rows.amax (rowOf x (rowAt r i)) (weightOf g) = 0 then 0#32
      else IntOp.subi (IntOp.subi (BitVec.ofNat 32 (N + 1)) 1#32) 126#32 := by
    have hc : countOf x g r (ix2 i (0 : Fin 1)) = BitVec.ofNat 32 (N + 1) := by
      rw [← Rows.count_eq ⟨N, by omega⟩]
      unfold countOf
      pointwise
      refine Finset.fold_congr fun k _ => ?_
      exact if_congr ((Iff.of_eq (congrArg (fun a : EReal => a * Rows.part448 < Ideal.ofBits .f32 (BitVec.ofNat 32 k.val <<< 23)) (amaxOf_apply x g r i))).trans
        (Rows.count_level (Rows.part_nonneg _ _) hN h k)) rfl rfl
    unfold expOf
    pointwise
    rw [hc, amaxOf_apply]
  by_cases h0 : Rows.amax (rowOf x (rowAt r i)) (weightOf g) = 0
  · rw [if_pos h0] at hs he
    exact ⟨127, by omega, by omega, hs, by rw [he]; rfl, by rw [he]; rfl⟩
  · rw [if_neg h0] at hs he
    have hb := Rows.bits_eq ⟨N, by omega⟩
    exact ⟨N + 1, by omega, by omega, hs, by rw [he]; exact hb.1, by rw [he]; exact hb.2⟩

theorem scaleBlock_apply (i : Fin 32) (l : Fin 128) : scaleBlock x g r (ix2 i l) = Rows.scale (rowOf x (rowAt r i)) (weightOf g) := by
  obtain ⟨k, h1, h2, hs, hb, -⟩ := exists_exp x r hG i
  unfold scaleBlock scaleOf
  pointwise
  rw [hb, hs, Rows.ofBits_pw h1 (by omega)]

theorem codeBlock_apply (c : Fin 40) (i : Fin 32) (l : Fin 128) :
    codeBlock x g r c (ix2 i l) = Rows.code (rowOf x (rowAt r i)) (weightOf g) (laneAt c l) := by
  obtain ⟨k, h1, h2, hs, -, hb⟩ := exists_exp x r hG i
  have hr : rsBlock x g r (ix2 i l) = Rows.rstd (rowOf x (rowAt r i)) * Rows.pw (254 - k) := by
    unfold rsBlock invOf
    pointwise
    rw [hb, rstdOf_apply, Rows.ofBits_pw (by omega) (by omega)]
  unfold codeBlock
  pointwise
  rw [hr]
  unfold Rows.code
  rw [hs, Rows.div_pw _ (by omega : k ≤ 254)]
  unfold Rows.normal
  refine congrArg (fun y => min _ (max _ y)) ?_
  rw [← mul_assoc, mul_right_comm]

end Level

end Cert.KernelIdeal.Hand
-- ==== Proof.Heads.lean ====
/-
  Hand-written. The kernel's projection over the extended reals: a head of a tile's row is that row's head.
-/
module

public import proofs.«01_k».proof.Proof.Blocks
public import proofs.«01_k».proof.Proof.Kern
public import Idealize.ShloMosaic.Lib.Pointwise
public import Idealize.ShloMosaic.Lib.Pipeline.ValueKit

@[expose] public section

set_option maxRecDepth 16384

noncomputable section

namespace Cert.KernelIdeal.Hand

open Idealize.ShloMosaic
open Shapes1.Facts₀ Shapes2.Facts₀

variable [Facts]

section Codes

variable (x : Vec Ideal S256x5120 .bf16) (g : Vec Ideal S1x5120 .f32) (hG : ∀ d, Rows.mag (weightOf g d) ≤ Rows.big)
include hG

theorem codesOf_apply (p : Fin 256) (d : Fin 5120) : codesOf x g (ix2 p d) = Rows.code (rowOf x p) (weightOf g) d := by
  have hp : rowAt ⟨p.val / 32, by omega⟩ ⟨p.val % 32, by omega⟩ = p := Fin.ext (by show 32 * (p.val / 32) + p.val % 32 = p.val; omega)
  have hd : laneAt ⟨d.val / 128, by omega⟩ ⟨d.val % 128, by omega⟩ = d := Fin.ext (by show 128 * (d.val / 128) + d.val % 128 = d.val; omega)
  have h := codeBlock_apply x ⟨p.val / 32, by omega⟩ hG ⟨d.val / 128, by omega⟩ ⟨p.val % 32, by omega⟩ ⟨d.val % 128, by omega⟩
  rw [hp, hd] at h
  exact h

theorem scalesOf_apply (p : Fin 256) (l : Fin 128) : scalesOf x g (ix2 p l) = Rows.scale (rowOf x p) (weightOf g) := by
  have hp : rowAt ⟨p.val / 32, by omega⟩ ⟨p.val % 32, by omega⟩ = p := Fin.ext (by show 32 * (p.val / 32) + p.val % 32 = p.val; omega)
  have h := scaleBlock_apply x ⟨p.val / 32, by omega⟩ hG ⟨p.val % 32, by omega⟩ l
  rw [hp] at h
  exact h

end Codes

section Project

variable (codes : Vec Ideal S256x5120 .fp8e4m3) (sc : Vec Ideal S256x128 .f32) (w : Vec Ideal S5120x3584 .fp8e4m3) (ws : Vec Ideal S1x3584 .f32)
  (hw : Vec Ideal S2x128 .f32)

theorem accOf_apply (j : Fin 7) (p : Fin 256) (q : Fin 512) :
    accOf codes w j (ix2 p q) = ∑ d : Fin 5120, codes (ix2 p d) * w (ix2 d (⟨512 * j.val + q.val, by omega⟩ : Fin 3584)) := by
  unfold accOf
  pointwise

theorem scaleHead_apply (y : FVec Ideal S256x512 .f32) (n : Fin 28) (h : Fin 4) (p : Fin 256) (e : Fin 128) :
    mulf (mulf (extractStridedSlice S256x128 ![0, 128 * h.val] y (headSlices h)) (fun i => sc (allScales.toLoadRect.idx i) : FVec Ideal S256x128 .f32))
      (broadcastTo S256x128 (shapeCast S1x128 (fun i => ws ((wsRect n).toLoadRect.idx i) : FVec Ideal S1x128 .f32) shapeCasts_S1x128_S1x128) broadcasts_S1x128_S256x128) (ix2 p e)
      = y (ix2 p (⟨128 * h.val + e.val, by omega⟩ : Fin 512)) * sc (ix2 p e) * ws (ix2 (0 : Fin 1) (Rows.col n e)) := by
  pointwise

theorem headOf_apply (n : Fin 28) (p : Fin 256) (e : Fin 128) :
    headOf codes sc w ws n (ix2 p e) = (∑ d : Fin 5120, codes (ix2 p d) * w (ix2 d (Rows.col n e))) * sc (ix2 p e) * ws (ix2 (0 : Fin 1) (Rows.col n e)) := by
  have hc : (⟨512 * (n.val / 4) + (128 * (n.val % 4) + e.val), by omega⟩ : Fin 3584) = Rows.col n e :=
    Fin.ext (by show 512 * (n.val / 4) + (128 * (n.val % 4) + e.val) = 128 * n.val + e.val; omega)
  unfold headOf
  rw [scaleHead_apply, accOf_apply]
  simp only [hc]

theorem normed_apply (b : Fin 2) (y : FVec Ideal S256x128 .f32) (p : Fin 256) (e : Fin 128) :
    normed hw b y (ix2 p e) = y (ix2 p e) * Ideal.rsqrt ((∑ k : Fin 128, y (ix2 p k) * y (ix2 p k)) * Ideal.ofBits .f32 0x3C000000#32 + Ideal.ofBits .f32 0x358637BD#32)
      * hw (ix2 b e) := by
  unfold normed
  pointwise

end Project

section Rows

variable (x : Vec Ideal S256x5120 .bf16) (g : Vec Ideal S1x5120 .f32) (w : Vec Ideal S5120x3584 .fp8e4m3) (ws : Vec Ideal S1x3584 .f32)
  (hw : Vec Ideal S2x128 .f32) (hG : ∀ d, Rows.mag (weightOf g d) ≤ Rows.big)

/-- The projection's weight. -/
abbrev wOf : Fin 5120 → Fin 3584 → EReal := fun d n => w (ix2 d n)
/-- The projection's scales. -/
abbrev wsOf : Fin 3584 → EReal := fun n => ws (ix2 (0 : Fin 1) n)
/-- A head norm's weight. -/
abbrev hwOf (b : Fin 2) : Fin 128 → EReal := fun e => hw (ix2 b e)

include hG

theorem head_eq (n : Fin 28) (p : Fin 256) (e : Fin 128) :
    headOf (codesOf x g) (scalesOf x g) w ws n (ix2 p e) = Rows.head (rowOf x p) (weightOf g) (wOf w) (wsOf ws) n e := by
  rw [headOf_apply, scalesOf_apply x g hG]
  simp only [codesOf_apply x g hG]
  rfl

theorem headNorm_eq (b : Fin 2) (n : Fin 28) (p : Fin 256) (e : Fin 128) :
    normed hw b (headOf (codesOf x g) (scalesOf x g) w ws n) (ix2 p e)
      = Rows.headNorm (Rows.head (rowOf x p) (weightOf g) (wOf w) (wsOf ws) n) (hwOf hw b) e := by
  rw [normed_apply]
  simp only [head_eq x g w ws hG]
  rw [Rows.part128]
  rfl

theorem qHead_eq (n : Fin 20) (p : Fin 256) (e : Fin 128) : qHead (codesOf x g) (scalesOf x g) w ws hw n (ix2 p e)
    = Rows.headNorm (Rows.head (rowOf x p) (weightOf g) (wOf w) (wsOf ws) ⟨n.val, by omega⟩) (hwOf hw 0) e :=
  headNorm_eq x g w ws hw hG 0 _ p e

theorem kHead_eq (n : Fin 4) (p : Fin 256) (e : Fin 128) : kHead (codesOf x g) (scalesOf x g) w ws hw n (ix2 p e)
    = Rows.headNorm (Rows.head (rowOf x p) (weightOf g) (wOf w) (wsOf ws) ⟨20 + n.val, by omega⟩) (hwOf hw 1) e :=
  headNorm_eq x g w ws hw hG 1 _ p e

theorem vHead_eq (n : Fin 4) (p : Fin 256) (e : Fin 128) : vHead (codesOf x g) (scalesOf x g) w ws n (ix2 p e)
    = Rows.head (rowOf x p) (weightOf g) (wOf w) (wsOf ws) ⟨24 + n.val, by omega⟩ e :=
  head_eq x g w ws hG _ p e

end Rows

end Cert.KernelIdeal.Hand

end
-- ==== Proof.KernRun.lean ====
/-
  Hand-written. What the kernel's run leaves in its result arrays over the extended reals, element by element, in terms of
  the arguments.
-/
module

public import proofs.«01_k».proof.Proof.Run
public import proofs.«01_k».proof.Proof.Heads
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen
open Idealize.SL.Sem

variable (m : (ℓ : Loc nD τ sig) → Buf (Elt Ideal) ℓ) (c : Dev nD)

/-- Row `r` of the input, its first two axes joined. -/
abbrev argRow (r : Fin 6144) : Fin 5120 → EReal :=
  fun d => m ((c : Thread nD τ).loc main_arg0) (ix3 (⟨r.val / 1024, by omega⟩ : Fin 6) (⟨r.val % 1024, by omega⟩ : Fin 1024) d)
/-- The norm's weight. -/
abbrev argG : Fin 5120 → EReal := fun d => m ((c : Thread nD τ).loc main_arg1) (ix1 d)
/-- The projection's weight. -/
abbrev argW : Fin 5120 → Fin 3584 → EReal := fun d n => m ((c : Thread nD τ).loc main_arg2) (ix2 d n)
/-- The projection's scales. -/
abbrev argWs : Fin 3584 → EReal := fun n => m ((c : Thread nD τ).loc main_arg3) (ix1 n)
/-- The queries' norm. -/
abbrev argQ : Fin 128 → EReal := fun e => m ((c : Thread nD τ).loc main_arg4) (ix1 e)
/-- The keys' norm. -/
abbrev argK : Fin 128 → EReal := fun e => m ((c : Thread nD τ).loc main_arg5) (ix1 e)

theorem idxIn : ∀ t : Fin cfg0.N, win0_0.index t = ![0, 0] ∧ win0_1.index t = ![2 * t.val + 1, 0] ∧ win0_2.index t = ![min (2 * t.val + 2) 23, 0]
    ∧ win0_3.index t = ![0, 0] ∧ win0_4.index t = ![0, 0] ∧ win0_5.index t = ![0, 0] ∧ win0_6.index t = ![0, 0] ∧ t.val < 12 :=
  (by decide +kernel : ∀ t : Fin grid0.N, _)

theorem idxOut : ∀ t : Fin cfg0.N, win0_7.index t = ![t.val / 2, 0, t.val % 2, 0] ∧ win0_8.index t = ![t.val, 0, 0] ∧ win0_9.index t = ![t.val, 0, 0]
    ∧ win0_10.index t = ![t.val, 0] ∧ win0_11.index t = ![t.val / 2, 0, t.val % 2] ∧ t.val < 12 :=
  (by decide +kernel : ∀ t : Fin grid0.N, _)

/-- What the host's first operations leave. -/
theorem V_eq (b : Ref sig .tc) : V m c b = StableHlo.after hostOps0 (fun b => m (c, b)) (Proc.devRef .tc b) := by
  show StableHlo.after (List.flatten [hostOps0]) (fun b => m (c, b)) (Proc.devRef .tc b) = _
  rw [List.flatten_cons, List.flatten_nil, List.append_nil]

theorem V_g (d : Fin 5120) : V m c main_v2 (ix2 (0 : Fin 1) d) = argG m c d := by
  rw [V_eq]
  entry_read
  pointwise

theorem V_ws (n : Fin 3584) : V m c main_v7 (ix2 (0 : Fin 1) n) = argWs m c n := by
  rw [V_eq]
  entry_read
  pointwise

/-- The joined input, element by element. -/
theorem joined (r : Fin 6144) (d : Fin 5120) : V m c main_v0 (ix2 r d) = argRow m c r d := by
  rw [V_eq]
  entry_read
  pointwise

theorem row0 (t : Fin cfg0.N) (p : Fin 256) (h : t.val = 0) : rowOf (in0 m c t) p = argRow m c ⟨512 * t.val + p.val, by omega⟩ := by
  funext d
  refine Eq.trans ?_ (joined m c _ d)
  show iblk m c 0 t (ix2 p d) = _
  blk_ext [iblk, idxIn t]

theorem row1 (t : Fin cfg0.N) (p : Fin 256) : rowOf (in1 m c t) p = argRow m c ⟨512 * t.val + 256 + p.val, by have := (idxIn t).2.2.2.2.2.2.2; omega⟩ := by
  funext d
  refine Eq.trans ?_ (joined m c _ d)
  show iblk m c 1 t (ix2 p d) = _
  blk_ext [iblk, idxIn t]

theorem row2 (t : Fin cfg0.N) (p : Fin 256) (h : t.val < 11) : rowOf (in2 m c t) p = argRow m c ⟨512 * (t.val + 1) + p.val, by omega⟩ := by
  funext d
  refine Eq.trans ?_ (joined m c _ d)
  show iblk m c 2 t (ix2 p d) = _
  blk_ext [iblk, idxIn t]

theorem weight3 (t : Fin cfg0.N) : weightOf (in3 m c t) = argG m c := by
  funext d
  refine Eq.trans ?_ (V_g m c d)
  show iblk m c 3 t (ix2 (0 : Fin 1) d) = V m c main_v2 (ix2 (0 : Fin 1) d)
  blk_ext [iblk, idxIn t]

theorem w4 (t : Fin cfg0.N) : wOf (in4 m c t) = argW m c := by
  funext d n
  show iblk m c 4 t (ix2 d n) = m ((c : Thread nD τ).loc main_arg2) (ix2 d n)
  blk_ext [iblk, V, idxIn t]

theorem ws5 (t : Fin cfg0.N) : wsOf (in5 m c t) = argWs m c := by
  funext d
  refine Eq.trans ?_ (V_ws m c d)
  show iblk m c 5 t (ix2 (0 : Fin 1) d) = V m c main_v7 (ix2 (0 : Fin 1) d)
  blk_ext [iblk, idxIn t]

theorem norms (b : Fin 2) (e : Fin 128) : V m c main_v6 (ix2 b e) = if b.val = 0 then argQ m c e else argK m c e := by
  rw [V_eq]
  entry_read
  pointwise
  by_cases h : b.val = 0
  · rw [if_pos h, dif_pos (by omega)]
  · rw [if_neg h, dif_neg (by omega)]

theorem hw6 (t : Fin cfg0.N) (b : Fin 2) (e : Fin 128) : in6 m c t (ix2 b e) = V m c main_v6 (ix2 b e) := by
  show iblk m c 6 t (ix2 b e) = _
  blk_ext [iblk, idxIn t]

theorem hwQ (t : Fin cfg0.N) : hwOf (in6 m c t) 0 = argQ m c := by
  funext e
  exact (hw6 m c t 0 e).trans ((norms m c 0 e).trans (if_pos rfl))

theorem hwK (t : Fin cfg0.N) : hwOf (in6 m c t) 1 = argK m c := by
  funext e
  exact (hw6 m c t 1 e).trans ((norms m c 1 e).trans (if_neg (by decide)))

theorem rowEven (t : Fin cfg0.N) (p : Fin 256) : rowOf (evenX m c t) p = argRow m c ⟨512 * t.val + p.val, by have := (idxIn t).2.2.2.2.2.2.2; omega⟩ := by
  have ht := (idxIn t).2.2.2.2.2.2.2
  unfold evenX
  by_cases h : t.val = 0
  · rw [if_pos h]; exact row0 m c t p h
  · rw [if_neg h, row2 m c (prior t) p (by show t.val - 1 < 11; omega)]
    exact congrArg (argRow m c) (Fin.ext (by show 512 * (t.val - 1 + 1) + p.val = 512 * t.val + p.val; omega))

theorem weightEven (t : Fin cfg0.N) : weightOf (evenG m c t) = argG m c := by
  unfold evenG
  by_cases h : t.val = 0
  · rw [if_pos h]; exact weight3 m c t
  · rw [if_neg h]; exact weight3 m c (prior t)

variable (hG : ∀ d, Rows.mag (argG m c d) ≤ Rows.big)

/-- Row `p` of the two tiles of point `t`. -/
abbrev rowsAt (t : Fin cfg0.N) (p : Fin 512) : Fin 6144 := ⟨512 * t.val + p.val, by have := (idxIn t).2.2.2.2.2.2.2; omega⟩

include hG

theorem left_q (t : Fin cfg0.N) (n : Fin 20) (p : Fin 512) (e : Fin 128) : (left m c t).q (ix4 (0 : Fin 1) n p e) =
    Rows.headNorm (Rows.head (argRow m c (rowsAt t p)) (argG m c) (argW m c) (argWs m c) ⟨n.val, by omega⟩) (argQ m c) e := by
  have hE : ∀ d, Rows.mag (weightOf (evenG m c t) d) ≤ Rows.big := by rw [weightEven]; exact hG
  have hO : ∀ d, Rows.mag (weightOf (in3 m c t) d) ≤ Rows.big := by rw [weight3]; exact hG
  show twoQ (codesOf (evenX m c t) (evenG m c t)) (codesOf (in1 m c t) (in3 m c t)) (scalesOf (evenX m c t) (evenG m c t))
    (scalesOf (in1 m c t) (in3 m c t)) (in4 m c t) (in5 m c t) (in6 m c t) (ix4 (0 : Fin 1) n p e) = _
  unfold twoQ
  by_cases h : p.val < 256
  · rw [if_pos (show ((ix4 (0 : Fin 1) n p e) 2).val < 256 from h)]
    refine (qHead_eq _ _ _ _ _ hE n ⟨p.val % 256, by omega⟩ e).trans ?_
    rw [rowEven, weightEven, w4, ws5, hwQ]
    refine congrArg (fun r => Rows.headNorm (Rows.head (argRow m c r) _ _ _ _) _ e) (Fin.ext ?_)
    show 512 * t.val + p.val % 256 = 512 * t.val + p.val
    omega
  · rw [if_neg (show ¬ ((ix4 (0 : Fin 1) n p e) 2).val < 256 from h)]
    refine (qHead_eq _ _ _ _ _ hO n ⟨p.val % 256, by omega⟩ e).trans ?_
    rw [row1, weight3, w4, ws5, hwQ]
    refine congrArg (fun r => Rows.headNorm (Rows.head (argRow m c r) _ _ _ _) _ e) (Fin.ext ?_)
    show 512 * t.val + 256 + p.val % 256 = 512 * t.val + p.val
    omega

theorem left_k (t : Fin cfg0.N) (p : Fin 512) (n : Fin 4) (e : Fin 128) : (left m c t).k (ix3 p n e) =
    Rows.headNorm (Rows.head (argRow m c (rowsAt t p)) (argG m c) (argW m c) (argWs m c) ⟨20 + n.val, by omega⟩) (argK m c) e := by
  have hE : ∀ d, Rows.mag (weightOf (evenG m c t) d) ≤ Rows.big := by rw [weightEven]; exact hG
  have hO : ∀ d, Rows.mag (weightOf (in3 m c t) d) ≤ Rows.big := by rw [weight3]; exact hG
  show twoK (codesOf (evenX m c t) (evenG m c t)) (codesOf (in1 m c t) (in3 m c t)) (scalesOf (evenX m c t) (evenG m c t))
    (scalesOf (in1 m c t) (in3 m c t)) (in4 m c t) (in5 m c t) (in6 m c t) (ix3 p n e) = _
  unfold twoK
  by_cases h : p.val < 256
  · rw [if_pos (show ((ix3 p n e) 0).val < 256 from h)]
    refine (kHead_eq _ _ _ _ _ hE n ⟨p.val % 256, by omega⟩ e).trans ?_
    rw [rowEven, weightEven, w4, ws5, hwK]
    refine congrArg (fun r => Rows.headNorm (Rows.head (argRow m c r) _ _ _ _) _ e) (Fin.ext ?_)
    show 512 * t.val + p.val % 256 = 512 * t.val + p.val
    omega
  · rw [if_neg (show ¬ ((ix3 p n e) 0).val < 256 from h)]
    refine (kHead_eq _ _ _ _ _ hO n ⟨p.val % 256, by omega⟩ e).trans ?_
    rw [row1, weight3, w4, ws5, hwK]
    refine congrArg (fun r => Rows.headNorm (Rows.head (argRow m c r) _ _ _ _) _ e) (Fin.ext ?_)
    show 512 * t.val + 256 + p.val % 256 = 512 * t.val + p.val
    omega

theorem left_v (t : Fin cfg0.N) (p : Fin 512) (n : Fin 4) (e : Fin 128) : (left m c t).v (ix3 p n e) =
    Rows.head (argRow m c (rowsAt t p)) (argG m c) (argW m c) (argWs m c) ⟨24 + n.val, by omega⟩ e := by
  have hE : ∀ d, Rows.mag (weightOf (evenG m c t) d) ≤ Rows.big := by rw [weightEven]; exact hG
  have hO : ∀ d, Rows.mag (weightOf (in3 m c t) d) ≤ Rows.big := by rw [weight3]; exact hG
  show twoV (codesOf (evenX m c t) (evenG m c t)) (codesOf (in1 m c t) (in3 m c t)) (scalesOf (evenX m c t) (evenG m c t))
    (scalesOf (in1 m c t) (in3 m c t)) (in4 m c t) (in5 m c t) (ix3 p n e) = _
  unfold twoV
  by_cases h : p.val < 256
  · rw [if_pos (show ((ix3 p n e) 0).val < 256 from h)]
    refine (vHead_eq _ _ _ _ hE n ⟨p.val % 256, by omega⟩ e).trans ?_
    rw [rowEven, weightEven, w4, ws5]
    refine congrArg (fun r => Rows.head (argRow m c r) _ _ _ _ e) (Fin.ext ?_)
    show 512 * t.val + p.val % 256 = 512 * t.val + p.val
    omega
  · rw [if_neg (show ¬ ((ix3 p n e) 0).val < 256 from h)]
    refine (vHead_eq _ _ _ _ hO n ⟨p.val % 256, by omega⟩ e).trans ?_
    rw [row1, weight3, w4, ws5]
    refine congrArg (fun r => Rows.head (argRow m c r) _ _ _ _ e) (Fin.ext ?_)
    show 512 * t.val + 256 + p.val % 256 = 512 * t.val + p.val
    omega

theorem left_c (t : Fin cfg0.N) (p : Fin 512) (d : Fin 5120) : (left m c t).c (ix2 p d) = Rows.code (argRow m c (rowsAt t p)) (argG m c) d := by
  have hE : ∀ d, Rows.mag (weightOf (evenG m c t) d) ≤ Rows.big := by rw [weightEven]; exact hG
  have hO : ∀ d, Rows.mag (weightOf (in3 m c t) d) ≤ Rows.big := by rw [weight3]; exact hG
  show twoCodes (codesOf (evenX m c t) (evenG m c t)) (codesOf (in1 m c t) (in3 m c t)) (ix2 p d) = _
  unfold twoCodes
  by_cases h : p.val < 256
  · rw [dif_pos (show ((ix2 p d) 0).val < 256 from h)]
    refine (codesOf_apply _ _ hE ⟨p.val, h⟩ d).trans ?_
    rw [rowEven, weightEven]
  · rw [dif_neg (show ¬ ((ix2 p d) 0).val < 256 from h)]
    refine (codesOf_apply _ _ hO ⟨p.val - 256, by omega⟩ d).trans ?_
    rw [row1, weight3]
    refine congrArg (fun r => Rows.code (argRow m c r) _ d) (Fin.ext ?_)
    show 512 * t.val + 256 + (p.val - 256) = 512 * t.val + p.val
    omega

theorem left_s (t : Fin cfg0.N) (p : Fin 512) : (left m c t).s (ix3 (0 : Fin 1) (0 : Fin 1) p) = Rows.scale (argRow m c (rowsAt t p)) (argG m c) := by
  have hE : ∀ d, Rows.mag (weightOf (evenG m c t) d) ≤ Rows.big := by rw [weightEven]; exact hG
  have hO : ∀ d, Rows.mag (weightOf (in3 m c t) d) ≤ Rows.big := by rw [weight3]; exact hG
  show twoScales (scalesOf (evenX m c t) (evenG m c t)) (scalesOf (in1 m c t) (in3 m c t)) (ix3 (0 : Fin 1) (0 : Fin 1) p) = _
  unfold twoScales
  by_cases h : p.val < 256
  · rw [dif_pos (show ((ix3 (0 : Fin 1) (0 : Fin 1) p) 2).val < 256 from h)]
    refine (scalesOf_apply _ _ hE ⟨p.val, h⟩ 0).trans ?_
    rw [rowEven, weightEven]
  · rw [dif_neg (show ¬ ((ix3 (0 : Fin 1) (0 : Fin 1) p) 2).val < 256 from h)]
    refine (scalesOf_apply _ _ hO ⟨p.val - 256, by omega⟩ 0).trans ?_
    rw [row1, weight3]
    refine congrArg (fun r => Rows.scale (argRow m c r) _) (Fin.ext ?_)
    show 512 * t.val + 256 + (p.val - 256) = 512 * t.val + p.val
    omega

end Cert.KernelIdeal.Hand

end
-- ==== Proof.KernEnd.lean ====
/-
  Hand-written. The kernel's results after its run, through the host's last re-indexings, over the extended reals.
-/
module

public import proofs.«01_k».proof.Proof.KernRun
public import Idealize.ShloMosaic.Lib.Pipeline.ValueKit

@[expose] public section

set_option maxRecDepth 16384

noncomputable section

namespace Cert.KernelIdeal.Hand

open Idealize.ShloMosaic Idealize.ShloMosaic.TcCoe Cert.KernelIdeal Cert.KernelIdeal.Gen
open Idealize.SL.Sem

variable (m : (ℓ : Loc nD τ sig) → Buf (Elt Ideal) ℓ) (c : Dev nD)

/-- Row `(b, s)` of the input. -/
abbrev rowBs (b : Fin 6) (s : Fin 1024) : Fin 6144 := ⟨b.val * 1024 + s.val, by omega⟩

/-- The queries, heads before rows. -/
def arrQ : S6x20x1024x128.Idx → EReal := fun i => Rows.headNorm (Rows.head (argRow m c (rowBs (i 0) (i 2))) (argG m c) (argW m c) (argWs m c) ⟨(i 1).val, by have : (i 1).val < 20 := (i 1).isLt; omega⟩) (argQ m c) (i 3)
/-- The keys, the first two axes joined. -/
def arrK : S6144x4x128.Idx → EReal := fun i => Rows.headNorm (Rows.head (argRow m c (i 0)) (argG m c) (argW m c) (argWs m c) ⟨20 + (i 1).val, by have : (i 1).val < 4 := (i 1).isLt; omega⟩) (argK m c) (i 2)
/-- The values, the first two axes joined. -/
def arrV : S6144x4x128.Idx → EReal := fun i => Rows.head (argRow m c (i 0)) (argG m c) (argW m c) (argWs m c) ⟨24 + (i 1).val, by have : (i 1).val < 4 := (i 1).isLt; omega⟩ (i 2)
/-- The codes, the first two axes joined. -/
def arrC : S6144x5120.Idx → EReal := fun i => Rows.code (argRow m c (i 0)) (argG m c) (i 1)
/-- The scales, rows last. -/
def arrS : S6x1x1024.Idx → EReal := fun i => Rows.scale (argRow m c (rowBs (i 0) (i 2))) (argG m c)

variable (hG : ∀ d, Rows.mag (argG m c d) ≤ Rows.big)
include hG

theorem final_q : (dats m 0 c).arrAt 7 (cfgs 0).N = arrQ m c := by
  refine (dats m 0 c).arrAt_eq_of_covers 7 _ (by decide +kernel) fun t _ y => ?_
  blk_simp
  obtain ⟨z, n, p, e, rfl⟩ : ∃ z n p e, y = ix4 z n p e := ⟨_, _, _, _, eq_ix4 y⟩
  obtain rfl : z = (0 : Fin 1) := Subsingleton.elim z (0 : Fin 1)
  refine (left_q m c hG t n p e).trans ?_
  have h : ((cfg0.win 7).blk t).view.emb (ix4 (0 : Fin 1) n p e)
      = ix4 (⟨t.val / 2, by have := (idxOut t).2.2.2.2.2; omega⟩ : Fin 6) n (⟨512 * (t.val % 2) + p.val, by omega⟩ : Fin 1024) e := by blk_ext [idxOut t]
  refine Eq.trans ?_ (congrArg (arrQ m c) h.symm)
  refine congrArg (fun r => Rows.headNorm (Rows.head (argRow m c r) _ _ _ _) _ e) (Fin.ext ?_)
  show 512 * t.val + p.val = t.val / 2 * 1024 + (512 * (t.val % 2) + p.val)
  omega

theorem final_k : (dats m 0 c).arrAt 8 (cfgs 0).N = arrK m c := by
  refine (dats m 0 c).arrAt_eq_of_covers 8 _ (by decide +kernel) fun t _ y => ?_
  blk_simp
  obtain ⟨p, n, e, rfl⟩ : ∃ p n e, y = ix3 p n e := ⟨_, _, _, eq_ix3 y⟩
  refine (left_k m c hG t p n e).trans ?_
  have h : ((cfg0.win 8).blk t).view.emb (ix3 p n e) = ix3 (rowsAt t p) n e := by blk_ext [idxOut t]
  refine Eq.trans ?_ (congrArg (arrK m c) h.symm)
  rfl

theorem final_v : (dats m 0 c).arrAt 9 (cfgs 0).N = arrV m c := by
  refine (dats m 0 c).arrAt_eq_of_covers 9 _ (by decide +kernel) fun t _ y => ?_
  blk_simp
  obtain ⟨p, n, e, rfl⟩ : ∃ p n e, y = ix3 p n e := ⟨_, _, _, eq_ix3 y⟩
  refine (left_v m c hG t p n e).trans ?_
  have h : ((cfg0.win 9).blk t).view.emb (ix3 p n e) = ix3 (rowsAt t p) n e := by blk_ext [idxOut t]
  refine Eq.trans ?_ (congrArg (arrV m c) h.symm)
  rfl

theorem final_c : (dats m 0 c).arrAt 10 (cfgs 0).N = arrC m c := by
  refine (dats m 0 c).arrAt_eq_of_covers 10 _ (by decide +kernel) fun t _ y => ?_
  blk_simp
  obtain ⟨p, d, rfl⟩ : ∃ p d, y = ix2 p d := ⟨_, _, eq_ix2 y⟩
  refine (left_c m c hG t p d).trans ?_
  have h : ((cfg0.win 10).blk t).view.emb (ix2 p d) = ix2 (rowsAt t p) d := by blk_ext [idxOut t]
  refine Eq.trans ?_ (congrArg (arrC m c) h.symm)
  rfl

theorem final_s : (dats m 0 c).arrAt 11 (cfgs 0).N = arrS m c := by
  refine (dats m 0 c).arrAt_eq_of_covers 11 _ (by decide +kernel) fun t _ y => ?_
  blk_simp
  obtain ⟨z, z', p, rfl⟩ : ∃ z z' p, y = ix3 z z' p := ⟨_, _, _, eq_ix3 y⟩
  obtain rfl : z = (0 : Fin 1) := Subsingleton.elim z (0 : Fin 1)
  obtain rfl : z' = (0 : Fin 1) := Subsingleton.elim z' (0 : Fin 1)
  refine (left_s m c hG t p).trans ?_
  have h : ((cfg0.win 11).blk t).view.emb (ix3 (0 : Fin 1) (0 : Fin 1) p)
      = ix3 (⟨t.val / 2, by have := (idxOut t).2.2.2.2.2; omega⟩ : Fin 6) (0 : Fin 1) (⟨512 * (t.val % 2) + p.val, by omega⟩ : Fin 1024) := by blk_ext [idxOut t]
  refine Eq.trans ?_ (congrArg (arrS m c) h.symm)
  refine congrArg (fun r => Rows.scale (argRow m c r) _) (Fin.ext ?_)
  show 512 * t.val + p.val = t.val / 2 * 1024 + (512 * (t.val % 2) + p.val)
  omega

omit hG

theorem tail_v9 (σ : Valuation τ sig (Elt Ideal)) : StableHlo.after hostOps1 σ (Proc.devRef .tc main_v9) =
    transpose S6x1024x20x128 [0, 2, 1, 3] (σ (Proc.devRef .tc main_v8_0)) transposes_S6x20x1024x128_S6x1024x20x128_0_2_1_3 := by
  entry_read
  rfl

theorem tail_v10 (σ : Valuation τ sig (Elt Ideal)) : StableHlo.after hostOps1 σ (Proc.devRef .tc main_v10) =
    shapeCast S6x1024x4x128 (σ (Proc.devRef .tc main_v8_1)) shapeCasts_S6144x4x128_S6x1024x4x128 := by
  entry_read
  rfl

theorem tail_v11 (σ : Valuation τ sig (Elt Ideal)) : StableHlo.after hostOps1 σ (Proc.devRef .tc main_v11) =
    shapeCast S6x1024x4x128 (σ (Proc.devRef .tc main_v8_2)) shapeCasts_S6144x4x128_S6x1024x4x128 := by
  entry_read
  rfl

theorem tail_v12 (σ : Valuation τ sig (Elt Ideal)) : StableHlo.after hostOps1 σ (Proc.devRef .tc main_v12) =
    shapeCast S6x1024x5120 (σ (Proc.devRef .tc main_v8_3)) shapeCasts_S6144x5120_S6x1024x5120 := by
  entry_read
  rfl

theorem tail_v13 (σ : Valuation τ sig (Elt Ideal)) : StableHlo.after hostOps1 σ (Proc.devRef .tc main_v13) =
    transpose S6x1024x1 [0, 2, 1] (σ (Proc.devRef .tc main_v8_4)) transposes_S6x1x1024_S6x1024x1_0_2_1 := by
  entry_read
  rfl

/-- The memory the host's last operations start from. -/
abbrev ended : Valuation τ sig (Elt Ideal) := Pipeline.withArrays (cfgs 0).spec c (V0 m c) fun w => (dats m 0 c).arrAt w (cfgs 0).N

/-- There each window's array is as the run leaves it. -/
theorem ended_arr (w : Fin cfg0.W) : ended m c (Proc.devRef .tc (Pipeline.arrRef spec0 w)) = (dats m 0 c).arrAt w (cfgs 0).N :=
  Pipeline.withArrays_arr_shared spec0 c (V0 m c) _ (fun w w' hne he =>
    ((dats m 0 c).arrAt_in w ((by decide : ∀ w w' : Fin 12, w ≠ w' → Pipeline.arrRef spec0 w = Pipeline.arrRef spec0 w' → (cfg0.win w).isOut = false) w w' hne he) _).trans
      (A_eq m c w)) w

theorem tail_eq (b : Ref sig .tc) : Pipeline.afterTail₀ cfgs (dats m) 0 (V0 m) [hostOps1] c b = StableHlo.after hostOps1 (ended m c) (Proc.devRef .tc b) := by
  unfold Pipeline.afterTail₀
  rw [List.flatten_cons, List.flatten_nil, List.append_nil]

theorem row_bs (b : Fin 6) (s : Fin 1024) : argRow m c (rowBs b s) = fun d => m ((c : Thread nD τ).loc main_arg0) (ix3 b s d) := by
  funext d
  have hb : (⟨(b.val * 1024 + s.val) / 1024, by omega⟩ : Fin 6) = b := Fin.ext (by show (b.val * 1024 + s.val) / 1024 = b.val; omega)
  have hs : (⟨(b.val * 1024 + s.val) % 1024, by omega⟩ : Fin 1024) = s := Fin.ext (by show (b.val * 1024 + s.val) % 1024 = s.val; omega)
  show m ((c : Thread nD τ).loc main_arg0) (ix3 (⟨(b.val * 1024 + s.val) / 1024, by omega⟩ : Fin 6) (⟨(b.val * 1024 + s.val) % 1024, by omega⟩ : Fin 1024) d) = _
  rw [hb, hs]

include hG

theorem result_q (b : Fin 6) (s : Fin 1024) (n : Fin 20) (e : Fin 128) : Pipeline.afterTail₀ cfgs (dats m) 0 (V0 m) [hostOps1] c main_v9 (ix4 b s n e) = arrQ m c (ix4 b n s e) := by
  rw [tail_eq, tail_v9]
  have h := (ended_arr m c 7).trans (final_q m c hG)
  change ended m c (Proc.devRef .tc main_v8_0) = arrQ m c at h
  rw [h]
  pointwise

theorem result_k (b : Fin 6) (s : Fin 1024) (n : Fin 4) (e : Fin 128) : Pipeline.afterTail₀ cfgs (dats m) 0 (V0 m) [hostOps1] c main_v10 (ix4 b s n e) = arrK m c (ix3 (rowBs b s) n e) := by
  rw [tail_eq, tail_v10]
  have h := (ended_arr m c 8).trans (final_k m c hG)
  change ended m c (Proc.devRef .tc main_v8_1) = arrK m c at h
  rw [h]
  pointwise

theorem result_v (b : Fin 6) (s : Fin 1024) (n : Fin 4) (e : Fin 128) : Pipeline.afterTail₀ cfgs (dats m) 0 (V0 m) [hostOps1] c main_v11 (ix4 b s n e) = arrV m c (ix3 (rowBs b s) n e) := by
  rw [tail_eq, tail_v11]
  have h := (ended_arr m c 9).trans (final_v m c hG)
  change ended m c (Proc.devRef .tc main_v8_2) = arrV m c at h
  rw [h]
  pointwise

theorem result_c (b : Fin 6) (s : Fin 1024) (d : Fin 5120) : Pipeline.afterTail₀ cfgs (dats m) 0 (V0 m) [hostOps1] c main_v12 (ix3 b s d) = arrC m c (ix2 (rowBs b s) d) := by
  rw [tail_eq, tail_v12]
  have h := (ended_arr m c 10).trans (final_c m c hG)
  change ended m c (Proc.devRef .tc main_v8_3) = arrC m c at h
  rw [h]
  pointwise

theorem result_s (b : Fin 6) (s : Fin 1024) (z : Fin 1) : Pipeline.afterTail₀ cfgs (dats m) 0 (V0 m) [hostOps1] c main_v13 (ix3 b s z) = arrS m c (ix3 b (0 : Fin 1) s) := by
  rw [tail_eq, tail_v13]
  have h := (ended_arr m c 11).trans (final_s m c hG)
  change ended m c (Proc.devRef .tc main_v8_4) = arrS m c at h
  rw [h]
  pointwise

end Cert.KernelIdeal.Hand

end
-- ==== Proof.Algebra.lean ====
/-
  Hand-written. The idealized kernel and the reference end with equal results: both are the same functions of the arguments.
-/
module

public import proofs.«01_k».proof.Defs
public import proofs.«01_k».proof.Proof.Gen.KernelIdeal
public import proofs.«01_k».proof.Proof.Gen.ReferenceIdeal
public import proofs.«01_k».proof.Proof.RefRun
public import proofs.«01_k».proof.Proof.KernEnd
public import proofs.«01_k».proof.Proof.Frames

@[expose] public section

set_option maxRecDepth 16384

noncomputable section

namespace Cert.Algebra

open Idealize.ShloMosaic Idealize.ShloMosaic.TcCoe Idealize.SL.Sem

/-- The shape relation the precondition states. -/
theorem preFacts : Cert.Pre_norm_w_finite.Facts where
  bcast_S_S5120 := by decide

/-- The precondition, element by element. -/
theorem bounded (m : (ℓ : Loc Cert.KernelIdeal.nD Cert.KernelIdeal.τ Cert.KernelIdeal.sig) → Buf (Elt Ideal) ℓ)
    (h : Cert.Pre_KernelIdeal_norm_w_finite (hPre_norm_w_finite := preFacts) m) (c : Dev Cert.KernelIdeal.nD) (d : Fin 5120) :
    Rows.mag (Cert.KernelIdeal.Hand.argG m c d) ≤ Rows.big := by
  have h' := congrFun (h c) (ix1 d)
  by_contra hn
  refine absurd h' ?_
  show ¬ (BitVec.ofBool (decide (Rows.mag (Cert.KernelIdeal.Hand.argG m c d) ≤ Rows.big)) = 1#1)
  rw [decide_eq_false hn]
  decide

section Args

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are launched on equal arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (h : Agree m m' c) (hG : ∀ d, Rows.mag (Cert.KernelIdeal.Hand.argG m c d) ≤ Rows.big)
include h

theorem row_agree (b : Fin 6) (s : Fin 1024) : Cert.KernelIdeal.Hand.argRow m c (Cert.KernelIdeal.Hand.rowBs b s) = Cert.ReferenceIdeal.Hand.argRow m' c b s := by
  rw [Cert.KernelIdeal.Hand.row_bs]
  funext d
  exact (congrFun h.1 (ix3 b s d)).symm

theorem g_agree : Cert.KernelIdeal.Hand.argG m c = Cert.ReferenceIdeal.Hand.argG m' c := funext fun d => (congrFun h.2.1 (ix1 d)).symm
theorem w_agree : Cert.KernelIdeal.Hand.argW m c = Cert.ReferenceIdeal.Hand.argW m' c := funext fun d => funext fun n => (congrFun h.2.2.1 (ix2 d n)).symm
theorem ws_agree : Cert.KernelIdeal.Hand.argWs m c = Cert.ReferenceIdeal.Hand.argWs m' c := funext fun n => (congrFun h.2.2.2.1 (ix1 n)).symm
theorem q_agree : Cert.KernelIdeal.Hand.argQ m c = Cert.ReferenceIdeal.Hand.argQ m' c := funext fun e => (congrFun h.2.2.2.2.1 (ix1 e)).symm
theorem k_agree : Cert.KernelIdeal.Hand.argK m c = Cert.ReferenceIdeal.Hand.argK m' c := funext fun e => (congrFun h.2.2.2.2.2 (ix1 e)).symm

include hG

theorem queries_agree : Pipeline.afterTail₀ Cert.KernelIdeal.cfgs (Cert.KernelIdeal.Hand.dats m) 0 (Cert.KernelIdeal.Gen.V0 m) [Cert.KernelIdeal.Gen.hostOps1] c Cert.KernelIdeal.main_v9
    = Cert.ReferenceIdeal.Hand.queries m' c := by
  funext i
  obtain ⟨b, s, n, e, rfl⟩ : ∃ b s n e, i = ix4 b s n e := ⟨_, _, _, _, eq_ix4 i⟩
  refine (Cert.KernelIdeal.Hand.result_q m c hG b s n e).trans ?_
  show Rows.headNorm (Rows.head (Cert.KernelIdeal.Hand.argRow m c (Cert.KernelIdeal.Hand.rowBs b s)) (Cert.KernelIdeal.Hand.argG m c) (Cert.KernelIdeal.Hand.argW m c)
    (Cert.KernelIdeal.Hand.argWs m c) ⟨n.val, _⟩) (Cert.KernelIdeal.Hand.argQ m c) e = _
  rw [row_agree m m' c h, g_agree m m' c h, w_agree m m' c h, ws_agree m m' c h, q_agree m m' c h]
  rfl

theorem keys_agree : Pipeline.afterTail₀ Cert.KernelIdeal.cfgs (Cert.KernelIdeal.Hand.dats m) 0 (Cert.KernelIdeal.Gen.V0 m) [Cert.KernelIdeal.Gen.hostOps1] c Cert.KernelIdeal.main_v10
    = Cert.ReferenceIdeal.Hand.keys m' c := by
  funext i
  obtain ⟨b, s, n, e, rfl⟩ : ∃ b s n e, i = ix4 b s n e := ⟨_, _, _, _, eq_ix4 i⟩
  refine (Cert.KernelIdeal.Hand.result_k m c hG b s n e).trans ?_
  show Rows.headNorm (Rows.head (Cert.KernelIdeal.Hand.argRow m c (Cert.KernelIdeal.Hand.rowBs b s)) (Cert.KernelIdeal.Hand.argG m c) (Cert.KernelIdeal.Hand.argW m c)
    (Cert.KernelIdeal.Hand.argWs m c) ⟨20 + n.val, _⟩) (Cert.KernelIdeal.Hand.argK m c) e = _
  rw [row_agree m m' c h, g_agree m m' c h, w_agree m m' c h, ws_agree m m' c h, k_agree m m' c h]
  rfl

theorem values_agree : Pipeline.afterTail₀ Cert.KernelIdeal.cfgs (Cert.KernelIdeal.Hand.dats m) 0 (Cert.KernelIdeal.Gen.V0 m) [Cert.KernelIdeal.Gen.hostOps1] c Cert.KernelIdeal.main_v11
    = Cert.ReferenceIdeal.Hand.values m' c := by
  funext i
  obtain ⟨b, s, n, e, rfl⟩ : ∃ b s n e, i = ix4 b s n e := ⟨_, _, _, _, eq_ix4 i⟩
  refine (Cert.KernelIdeal.Hand.result_v m c hG b s n e).trans ?_
  show Rows.head (Cert.KernelIdeal.Hand.argRow m c (Cert.KernelIdeal.Hand.rowBs b s)) (Cert.KernelIdeal.Hand.argG m c) (Cert.KernelIdeal.Hand.argW m c)
    (Cert.KernelIdeal.Hand.argWs m c) ⟨24 + n.val, _⟩ e = _
  rw [row_agree m m' c h, g_agree m m' c h, w_agree m m' c h, ws_agree m m' c h]
  rfl

theorem codes_agree : Pipeline.afterTail₀ Cert.KernelIdeal.cfgs (Cert.KernelIdeal.Hand.dats m) 0 (Cert.KernelIdeal.Gen.V0 m) [Cert.KernelIdeal.Gen.hostOps1] c Cert.KernelIdeal.main_v12
    = Cert.ReferenceIdeal.Hand.codes m' c := by
  funext i
  obtain ⟨b, s, d, rfl⟩ : ∃ b s d, i = ix3 b s d := ⟨_, _, _, eq_ix3 i⟩
  refine (Cert.KernelIdeal.Hand.result_c m c hG b s d).trans ?_
  show Rows.code (Cert.KernelIdeal.Hand.argRow m c (Cert.KernelIdeal.Hand.rowBs b s)) (Cert.KernelIdeal.Hand.argG m c) d = _
  rw [row_agree m m' c h, g_agree m m' c h]
  rfl

theorem scales_agree : Pipeline.afterTail₀ Cert.KernelIdeal.cfgs (Cert.KernelIdeal.Hand.dats m) 0 (Cert.KernelIdeal.Gen.V0 m) [Cert.KernelIdeal.Gen.hostOps1] c Cert.KernelIdeal.main_v13
    = Cert.ReferenceIdeal.Hand.scales m' c := by
  funext i
  obtain ⟨b, s, z, rfl⟩ : ∃ b s z, i = ix3 b s z := ⟨_, _, _, eq_ix3 i⟩
  refine (Cert.KernelIdeal.Hand.result_s m c hG b s z).trans ?_
  show Rows.scale (Cert.KernelIdeal.Hand.argRow m c (Cert.KernelIdeal.Hand.rowBs b s)) (Cert.KernelIdeal.Hand.argG m c) = _
  rw [row_agree m m' c h, g_agree m m' c h]
  rfl

end Args

/-- Under the precondition the two programs end with equal results. -/
theorem algebraic : Cert.algebraic_KernelIdeal_ReferenceIdeal_pre_norm_w_finite (hKernelIdeal := Cert.KernelIdeal.Gen.facts)
    (hReferenceIdeal := Cert.ReferenceIdeal.Gen.facts) (hPre_norm_w_finite := preFacts) := by
  intro m g m' g' hpre hargs
  have hG := bounded m hpre
  refine ⟨fun c => Cert.ReferenceIdeal.Hand.queries m' c, fun c => Cert.ReferenceIdeal.Hand.keys m' c, fun c => Cert.ReferenceIdeal.Hand.values m' c,
    fun c => Cert.ReferenceIdeal.Hand.codes m' c, fun c => Cert.ReferenceIdeal.Hand.scales m' c, ?_, ?_⟩
  · refine (θ_run _ _ _).mono (fun r h c => ?_) (θ_run_and (Cert.KernelIdeal.Hand.run_main m g) (Cert.KernelIdeal.Hand.frame m g))
    have hk := (h.1.1 c).2
    have ha := hargs c
    exact ⟨(hk Cert.KernelIdeal.main_v9 (Pipeline.mem_restRefs_of Cert.KernelIdeal.main_v9 (by decide) (by decide))).trans (queries_agree m m' c ha (hG c)),
      (hk Cert.KernelIdeal.main_v10 (Pipeline.mem_restRefs_of Cert.KernelIdeal.main_v10 (by decide) (by decide))).trans (keys_agree m m' c ha (hG c)),
      (hk Cert.KernelIdeal.main_v11 (Pipeline.mem_restRefs_of Cert.KernelIdeal.main_v11 (by decide) (by decide))).trans (values_agree m m' c ha (hG c)),
      (hk Cert.KernelIdeal.main_v12 (Pipeline.mem_restRefs_of Cert.KernelIdeal.main_v12 (by decide) (by decide))).trans (codes_agree m m' c ha (hG c)),
      (hk Cert.KernelIdeal.main_v13 (Pipeline.mem_restRefs_of Cert.KernelIdeal.main_v13 (by decide) (by decide))).trans (scales_agree m m' c ha (hG c)),
      h.2.1 c⟩
  · refine (θ_run _ _ _).mono (fun r h c => ?_) (θ_run_and (Cert.ReferenceIdeal.Gen.run_main m' g') (Cert.ReferenceIdeal.Gen.unchanged m' g'))
    exact ⟨((h.1 c).1 6).trans (Cert.ReferenceIdeal.Hand.queries_final m' c), ((h.1 c).1 7).trans (Cert.ReferenceIdeal.Hand.keys_final m' c),
      ((h.1 c).1 8).trans (Cert.ReferenceIdeal.Hand.values_final m' c), ((h.1 c).1 9).trans (Cert.ReferenceIdeal.Hand.codes_final m' c),
      ((h.1 c).1 10).trans (Cert.ReferenceIdeal.Hand.scale_final m' c), h.2 c⟩

end Cert.Algebra

end
-- ==== Proof.lean ====
/-
  Hand-written. The proof of `Cert.Claim`: the frames of the kernel as printed (`Transport.lean`), of its idealization
  (`Frames.lean`) and of the reference (generated), the idealization's ledger, and the equality of the two idealized
  programs' results (`Algebra.lean`).
-/
module

public import proofs.«01_k».proof.Defs
public import proofs.«01_k».proof.Proof.Gen.Kernel
public import proofs.«01_k».proof.Proof.Gen.KernelIdeal
public import proofs.«01_k».proof.Proof.Gen.ReferenceIdeal.Frame
public import proofs.«01_k».proof.Proof.Transport
public import proofs.«01_k».proof.Proof.Algebra
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Algebra.preFacts,
    Cert.Transport.quiescent,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    IdealRules.named_const.statement _ _ _ _ _ rfl,
    Cert.Algebra.algebraic⟩

end Cert.Proof

end
